-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S8192x4096 : Shape := ⟨2, ![8192, 4096]⟩
abbrev S3x512x2048 : Shape := ⟨3, ![3, 512, 2048]⟩
abbrev S512x2048 : Shape := ⟨2, ![512, 2048]⟩
abbrev S2x512x512 : Shape := ⟨3, ![2, 512, 512]⟩
abbrev S512x512 : Shape := ⟨2, ![512, 512]⟩
abbrev S3 : Shape := ⟨1, ![3]⟩
abbrev S_ : Shape := ⟨0, ![]⟩
abbrev S1x512x512 : Shape := ⟨3, ![1, 512, 512]⟩
abbrev S1x512x2048 : Shape := ⟨3, ![1, 512, 2048]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .local _ .vmem, ⟨0, _⟩ => ⟨S512x4096, .f32⟩
  | .local _ .vmem, ⟨1, _⟩ => ⟨S3x512x2048, .f32⟩
  | .local _ .vmem, ⟨2, _⟩ => ⟨S3x512x2048, .f32⟩
  | .local _ .vmem, ⟨3, _⟩ => ⟨S512x2048, .f32⟩
  | .local _ .vmem, ⟨4, _⟩ => ⟨S512x2048, .f32⟩
  | .local _ .vmem, ⟨5, _⟩ => ⟨S2x512x512, .f32⟩
  | .local _ .vmem, ⟨6, _⟩ => ⟨S2x512x512, .f32⟩
  | .local _ .vmem, ⟨7, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 3 18 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v17 : BitVec 32 := Scalar.addi v2 c32_i32
  let c16_i32_12 : BitVec 32 := 16#32
  let v18 : BitVec 32 := Scalar.remsi v17 c16_i32_12
  let c512_i32 : BitVec 32 := 512#32
  let v19 : BitVec 32 := Scalar.muli v18 c512_i32
  let c0_i32_13 : BitVec 32 := 0#32
  ![v19.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_14 : BitVec 32 := 1#32
  let v21 : BitVec 32 := Scalar.subi v2 c1_i32_14
  let c32_i32_15 : BitVec 32 := 32#32
  let v22 : BitVec 32 := Scalar.addi v21 c32_i32_15
  let c16_i32_16 : BitVec 32 := 16#32
  let v23 : BitVec 32 := Scalar.remsi v22 c16_i32_16
  let c512_i32_17 : BitVec 32 := 512#32
  let v24 : BitVec 32 := Scalar.muli v23 c512_i32_17
  let c0_i32_25 : BitVec 32 := 0#32
  ![v24.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v25 : BitVec 32 := Scalar.addi v2 c1_i32_18
  let c32_i32_19 : BitVec 32 := 32#32
  let v26 : BitVec 32 := Scalar.addi v25 c32_i32_19
  let c16_i32_20 : BitVec 32 := 16#32
  let v27 : BitVec 32 := Scalar.remsi v26 c16_i32_20
  let c512_i32_21 : BitVec 32 := 512#32
  let v28 : BitVec 32 := Scalar.muli v27 c512_i32_21
  let c0_i32_29 : BitVec 32 := 0#32
  ![v28.toNat, 0]
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_46 : BitVec 32 := 1#32
  let v46 : BitVec 32 := Scalar.muli v7 c1_i32_46
  let v47 : BitVec 32 := Scalar.addi c0_i32_47 v46
  v47.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_56 : BitVec 32 := 1#32
  let v56 : BitVec 32 := Scalar.muli v5 c1_i32_56
  let v57 : BitVec 32 := Scalar.addi c0_i32_57 v56
  v57.toNat
def k0_off4 (d0 : Dev nD) (c0_i32_70 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v72 : BitVec 32 := Scalar.subi v2 c0_i32_70
  let c2_i32_71 : BitVec 32 := 2#32
  let v73 : BitVec 32 := Scalar.subi v72 c2_i32_71
  let c32_i32_72 : BitVec 32 := 32#32
  let v74 : BitVec 32 := Scalar.addi v73 c32_i32_72
  let c16_i32_73 : BitVec 32 := 16#32
  let v75 : BitVec 32 := Scalar.remsi v74 c16_i32_73
  let c512_i32_74 : BitVec 32 := 512#32
  let v76 : BitVec 32 := Scalar.muli v75 c512_i32_74
  let c0_i32_83 : BitVec 32 := 0#32
  ![v76.toNat, 0]
def k0_off5 (d0 : Dev nD) (c0_i32_75 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v77 : BitVec 32 := Scalar.addi v2 c0_i32_75
  let c2_i32_76 : BitVec 32 := 2#32
  let v78 : BitVec 32 := Scalar.addi v77 c2_i32_76
  let c32_i32_77 : BitVec 32 := 32#32
  let v79 : BitVec 32 := Scalar.addi v78 c32_i32_77
  let c16_i32_78 : BitVec 32 := 16#32
  let v80 : BitVec 32 := Scalar.remsi v79 c16_i32_78
  let c512_i32_79 : BitVec 32 := 512#32
  let v81 : BitVec 32 := Scalar.muli v80 c512_i32_79
  let c0_i32_87 : BitVec 32 := 0#32
  ![v81.toNat, 0]
def k0_dev5 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_139 : BitVec 32 := 1#32
  let v128 : BitVec 32 := Scalar.muli v5 c1_i32_139
  let v129 : BitVec 32 := Scalar.addi c0_i32_140 v128
  v129.toNat
def k0_dev6 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_142 : BitVec 32 := 1#32
  let v130 : BitVec 32 := Scalar.muli v7 c1_i32_142
  let v131 : BitVec 32 := Scalar.addi c0_i32_143 v130
  v131.toNat
def k0_dev7 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_163 : BitVec 32 := 1#32
  let v146 : BitVec 32 := Scalar.muli v7 c1_i32_163
  let v147 : BitVec 32 := Scalar.addi c0_i32_164 v146
  v147.toNat
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_173 : BitVec 32 := 1#32
  let v156 : BitVec 32 := Scalar.muli v5 c1_i32_173
  let v157 : BitVec 32 := Scalar.addi c0_i32_174 v156
  v157.toNat
def k0_dev9 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_256 : BitVec 32 := 1#32
  let v228 : BitVec 32 := Scalar.muli v5 c1_i32_256
  let v229 : BitVec 32 := Scalar.addi c0_i32_257 v228
  v229.toNat
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_259 : BitVec 32 := 1#32
  let v230 : BitVec 32 := Scalar.muli v7 c1_i32_259
  let v231 : BitVec 32 := Scalar.addi c0_i32_260 v230
  v231.toNat
def k0_dev11 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_284 : BitVec 32 := 1#32
  let v246 : BitVec 32 := Scalar.muli v7 c1_i32_284
  let v247 : BitVec 32 := Scalar.addi c0_i32_285 v246
  v247.toNat
def k0_dev12 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_294 : BitVec 32 := 1#32
  let v256 : BitVec 32 := Scalar.muli v5 c1_i32_294
  let v257 : BitVec 32 := Scalar.addi c0_i32_295 v256
  v257.toNat
def k0_dev13 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_377 : BitVec 32 := 1#32
  let v328 : BitVec 32 := Scalar.muli v5 c1_i32_377
  let v329 : BitVec 32 := Scalar.addi c0_i32_378 v328
  v329.toNat
def k0_dev14 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_380 : BitVec 32 := 1#32
  let v330 : BitVec 32 := Scalar.muli v7 c1_i32_380
  let v331 : BitVec 32 := Scalar.addi c0_i32_381 v330
  v331.toNat
def k0_dev15 (d0 : Dev nD) : Nat :=
  let c0_i32_407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_406 : BitVec 32 := 1#32
  let v346 : BitVec 32 := Scalar.muli v7 c1_i32_406
  let v347 : BitVec 32 := Scalar.addi c0_i32_407 v346
  v347.toNat
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_416 : BitVec 32 := 1#32
  let v356 : BitVec 32 := Scalar.muli v5 c1_i32_416
  let v357 : BitVec 32 := Scalar.addi c0_i32_417 v356
  v357.toNat
def k0_dev17 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_498 : BitVec 32 := 1#32
  let v428 : BitVec 32 := Scalar.muli v5 c1_i32_498
  let v429 : BitVec 32 := Scalar.addi c0_i32_499 v428
  v429.toNat
def k0_dev18 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_501 : BitVec 32 := 1#32
  let v430 : BitVec 32 := Scalar.muli v7 c1_i32_501
  let v431 : BitVec 32 := Scalar.addi c0_i32_502 v430
  v431.toNat
def k0_dev19 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_527 : BitVec 32 := 1#32
  let v446 : BitVec 32 := Scalar.muli v7 c1_i32_527
  let v447 : BitVec 32 := Scalar.addi c0_i32_528 v446
  v447.toNat
def k0_dev20 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_537 : BitVec 32 := 1#32
  let v456 : BitVec 32 := Scalar.muli v5 c1_i32_537
  let v457 : BitVec 32 := Scalar.addi c0_i32_538 v456
  v457.toNat
def k0_dev21 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_619 : BitVec 32 := 1#32
  let v528 : BitVec 32 := Scalar.muli v5 c1_i32_619
  let v529 : BitVec 32 := Scalar.addi c0_i32_620 v528
  v529.toNat
def k0_dev22 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_622 : BitVec 32 := 1#32
  let v530 : BitVec 32 := Scalar.muli v7 c1_i32_622
  let v531 : BitVec 32 := Scalar.addi c0_i32_623 v530
  v531.toNat
def k0_dev23 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_648 : BitVec 32 := 1#32
  let v546 : BitVec 32 := Scalar.muli v7 c1_i32_648
  let v547 : BitVec 32 := Scalar.addi c0_i32_649 v546
  v547.toNat
def k0_dev24 (d0 : Dev nD) : Nat :=
  let c0_i32_659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_658 : BitVec 32 := 1#32
  let v556 : BitVec 32 := Scalar.muli v5 c1_i32_658
  let v557 : BitVec 32 := Scalar.addi c0_i32_659 v556
  v557.toNat
def k0_dev25 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_740 : BitVec 32 := 1#32
  let v628 : BitVec 32 := Scalar.muli v5 c1_i32_740
  let v629 : BitVec 32 := Scalar.addi c0_i32_741 v628
  v629.toNat
def k0_dev26 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_743 : BitVec 32 := 1#32
  let v630 : BitVec 32 := Scalar.muli v7 c1_i32_743
  let v631 : BitVec 32 := Scalar.addi c0_i32_744 v630
  v631.toNat
def k0_dev27 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_769 : BitVec 32 := 1#32
  let v646 : BitVec 32 := Scalar.muli v7 c1_i32_769
  let v647 : BitVec 32 := Scalar.addi c0_i32_770 v646
  v647.toNat
def k0_dev28 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_779 : BitVec 32 := 1#32
  let v656 : BitVec 32 := Scalar.muli v5 c1_i32_779
  let v657 : BitVec 32 := Scalar.addi c0_i32_780 v656
  v657.toNat
def k0_dev29 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_861 : BitVec 32 := 1#32
  let v728 : BitVec 32 := Scalar.muli v5 c1_i32_861
  let v729 : BitVec 32 := Scalar.addi c0_i32_862 v728
  v729.toNat
def k0_dev30 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_864 : BitVec 32 := 1#32
  let v730 : BitVec 32 := Scalar.muli v7 c1_i32_864
  let v731 : BitVec 32 := Scalar.addi c0_i32_865 v730
  v731.toNat
def k0_dev31 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_890 : BitVec 32 := 1#32
  let v746 : BitVec 32 := Scalar.muli v7 c1_i32_890
  let v747 : BitVec 32 := Scalar.addi c0_i32_891 v746
  v747.toNat
def k0_dev32 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_900 : BitVec 32 := 1#32
  let v756 : BitVec 32 := Scalar.muli v5 c1_i32_900
  let v757 : BitVec 32 := Scalar.addi c0_i32_901 v756
  v757.toNat
def k0_dev33 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_982 : BitVec 32 := 1#32
  let v828 : BitVec 32 := Scalar.muli v5 c1_i32_982
  let v829 : BitVec 32 := Scalar.addi c0_i32_983 v828
  v829.toNat
def k0_dev34 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_985 : BitVec 32 := 1#32
  let v830 : BitVec 32 := Scalar.muli v7 c1_i32_985
  let v831 : BitVec 32 := Scalar.addi c0_i32_986 v830
  v831.toNat
def k0_dev35 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1011 : BitVec 32 := 1#32
  let v846 : BitVec 32 := Scalar.muli v7 c1_i32_1011
  let v847 : BitVec 32 := Scalar.addi c0_i32_1012 v846
  v847.toNat
def k0_dev36 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1021 : BitVec 32 := 1#32
  let v856 : BitVec 32 := Scalar.muli v5 c1_i32_1021
  let v857 : BitVec 32 := Scalar.addi c0_i32_1022 v856
  v857.toNat
def k0_dev37 (d0 : Dev nD) : Nat :=
  let c0_i32_1104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1103 : BitVec 32 := 1#32
  let v928 : BitVec 32 := Scalar.muli v5 c1_i32_1103
  let v929 : BitVec 32 := Scalar.addi c0_i32_1104 v928
  v929.toNat
def k0_dev38 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1106 : BitVec 32 := 1#32
  let v930 : BitVec 32 := Scalar.muli v7 c1_i32_1106
  let v931 : BitVec 32 := Scalar.addi c0_i32_1107 v930
  v931.toNat
def k0_dev39 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1132 : BitVec 32 := 1#32
  let v946 : BitVec 32 := Scalar.muli v7 c1_i32_1132
  let v947 : BitVec 32 := Scalar.addi c0_i32_1133 v946
  v947.toNat
def k0_dev40 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1142 : BitVec 32 := 1#32
  let v956 : BitVec 32 := Scalar.muli v5 c1_i32_1142
  let v957 : BitVec 32 := Scalar.addi c0_i32_1143 v956
  v957.toNat
def k0_dev41 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1224 : BitVec 32 := 1#32
  let v1028 : BitVec 32 := Scalar.muli v5 c1_i32_1224
  let v1029 : BitVec 32 := Scalar.addi c0_i32_1225 v1028
  v1029.toNat
def k0_dev42 (d0 : Dev nD) : Nat :=
  let c0_i32_1228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1227 : BitVec 32 := 1#32
  let v1030 : BitVec 32 := Scalar.muli v7 c1_i32_1227
  let v1031 : BitVec 32 := Scalar.addi c0_i32_1228 v1030
  v1031.toNat
def k0_dev43 (d0 : Dev nD) : Nat :=
  let c0_i32_1254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1253 : BitVec 32 := 1#32
  let v1046 : BitVec 32 := Scalar.muli v7 c1_i32_1253
  let v1047 : BitVec 32 := Scalar.addi c0_i32_1254 v1046
  v1047.toNat
def k0_dev44 (d0 : Dev nD) : Nat :=
  let c0_i32_1264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1263 : BitVec 32 := 1#32
  let v1056 : BitVec 32 := Scalar.muli v5 c1_i32_1263
  let v1057 : BitVec 32 := Scalar.addi c0_i32_1264 v1056
  v1057.toNat
def k0_dev45 (d0 : Dev nD) : Nat :=
  let c0_i32_1346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1345 : BitVec 32 := 1#32
  let v1128 : BitVec 32 := Scalar.muli v5 c1_i32_1345
  let v1129 : BitVec 32 := Scalar.addi c0_i32_1346 v1128
  v1129.toNat
def k0_dev46 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1348 : BitVec 32 := 1#32
  let v1130 : BitVec 32 := Scalar.muli v7 c1_i32_1348
  let v1131 : BitVec 32 := Scalar.addi c0_i32_1349 v1130
  v1131.toNat
def k0_dev47 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1374 : BitVec 32 := 1#32
  let v1146 : BitVec 32 := Scalar.muli v7 c1_i32_1374
  let v1147 : BitVec 32 := Scalar.addi c0_i32_1375 v1146
  v1147.toNat
def k0_dev48 (d0 : Dev nD) : Nat :=
  let c0_i32_1385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1384 : BitVec 32 := 1#32
  let v1156 : BitVec 32 := Scalar.muli v5 c1_i32_1384
  let v1157 : BitVec 32 := Scalar.addi c0_i32_1385 v1156
  v1157.toNat
def k0_dev49 (d0 : Dev nD) : Nat :=
  let c0_i32_1467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1466 : BitVec 32 := 1#32
  let v1228 : BitVec 32 := Scalar.muli v5 c1_i32_1466
  let v1229 : BitVec 32 := Scalar.addi c0_i32_1467 v1228
  v1229.toNat
def k0_dev50 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1469 : BitVec 32 := 1#32
  let v1230 : BitVec 32 := Scalar.muli v7 c1_i32_1469
  let v1231 : BitVec 32 := Scalar.addi c0_i32_1470 v1230
  v1231.toNat
def k0_dev51 (d0 : Dev nD) : Nat :=
  let c0_i32_1496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1495 : BitVec 32 := 1#32
  let v1246 : BitVec 32 := Scalar.muli v7 c1_i32_1495
  let v1247 : BitVec 32 := Scalar.addi c0_i32_1496 v1246
  v1247.toNat
def k0_dev52 (d0 : Dev nD) : Nat :=
  let c0_i32_1506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1505 : BitVec 32 := 1#32
  let v1256 : BitVec 32 := Scalar.muli v5 c1_i32_1505
  let v1257 : BitVec 32 := Scalar.addi c0_i32_1506 v1256
  v1257.toNat
def k0_dev53 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1587 : BitVec 32 := 1#32
  let v1328 : BitVec 32 := Scalar.muli v5 c1_i32_1587
  let v1329 : BitVec 32 := Scalar.addi c0_i32_1588 v1328
  v1329.toNat
def k0_dev54 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1590 : BitVec 32 := 1#32
  let v1330 : BitVec 32 := Scalar.muli v7 c1_i32_1590
  let v1331 : BitVec 32 := Scalar.addi c0_i32_1591 v1330
  v1331.toNat
def k0_dev55 (d0 : Dev nD) : Nat :=
  let c0_i32_1617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1616 : BitVec 32 := 1#32
  let v1346 : BitVec 32 := Scalar.muli v7 c1_i32_1616
  let v1347 : BitVec 32 := Scalar.addi c0_i32_1617 v1346
  v1347.toNat
def k0_dev56 (d0 : Dev nD) : Nat :=
  let c0_i32_1627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1626 : BitVec 32 := 1#32
  let v1356 : BitVec 32 := Scalar.muli v5 c1_i32_1626
  let v1357 : BitVec 32 := Scalar.addi c0_i32_1627 v1356
  v1357.toNat
def k0_dev57 (d0 : Dev nD) : Nat :=
  let c0_i32_1709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1708 : BitVec 32 := 1#32
  let v1428 : BitVec 32 := Scalar.muli v5 c1_i32_1708
  let v1429 : BitVec 32 := Scalar.addi c0_i32_1709 v1428
  v1429.toNat
def k0_dev58 (d0 : Dev nD) : Nat :=
  let c0_i32_1712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1711 : BitVec 32 := 1#32
  let v1430 : BitVec 32 := Scalar.muli v7 c1_i32_1711
  let v1431 : BitVec 32 := Scalar.addi c0_i32_1712 v1430
  v1431.toNat
def k0_dev59 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1737 : BitVec 32 := 1#32
  let v1446 : BitVec 32 := Scalar.muli v7 c1_i32_1737
  let v1447 : BitVec 32 := Scalar.addi c0_i32_1738 v1446
  v1447.toNat
def k0_dev60 (d0 : Dev nD) : Nat :=
  let c0_i32_1748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1747 : BitVec 32 := 1#32
  let v1456 : BitVec 32 := Scalar.muli v5 c1_i32_1747
  let v1457 : BitVec 32 := Scalar.addi c0_i32_1748 v1456
  v1457.toNat
def k0_dev61 (d0 : Dev nD) : Nat :=
  let c0_i32_1813 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1812 : BitVec 32 := 1#32
  let v1512 : BitVec 32 := Scalar.muli v5 c1_i32_1812
  let v1513 : BitVec 32 := Scalar.addi c0_i32_1813 v1512
  v1513.toNat
def k0_dev62 (d0 : Dev nD) : Nat :=
  let c0_i32_1816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1815 : BitVec 32 := 1#32
  let v1514 : BitVec 32 := Scalar.muli v7 c1_i32_1815
  let v1515 : BitVec 32 := Scalar.addi c0_i32_1816 v1514
  v1515.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1833 : BitVec 32 := 1#32
  let v1530 : BitVec 32 := Scalar.addi v2 c1_i32_1833
  let c32_i32_1834 : BitVec 32 := 32#32
  let v1531 : BitVec 32 := Scalar.addi v1530 c32_i32_1834
  let c16_i32_1835 : BitVec 32 := 16#32
  let v1532 : BitVec 32 := Scalar.remsi v1531 c16_i32_1835
  let c512_i32_1836 : BitVec 32 := 512#32
  let v1533 : BitVec 32 := Scalar.muli v1532 c512_i32_1836
  let c0_i32_1842 : BitVec 32 := 0#32
  ![v1533.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1837 : BitVec 32 := 1#32
  let v1534 : BitVec 32 := Scalar.subi v2 c1_i32_1837
  let c32_i32_1838 : BitVec 32 := 32#32
  let v1535 : BitVec 32 := Scalar.addi v1534 c32_i32_1838
  let c16_i32_1839 : BitVec 32 := 16#32
  let v1536 : BitVec 32 := Scalar.remsi v1535 c16_i32_1839
  let c512_i32_1840 : BitVec 32 := 512#32
  let v1537 : BitVec 32 := Scalar.muli v1536 c512_i32_1840
  let c2048_i32 : BitVec 32 := 2048#32
  ![v1537.toNat, 2048]
def k0_dev63 (d0 : Dev nD) : Nat :=
  let c0_i32_1857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1856 : BitVec 32 := 1#32
  let v1544 : BitVec 32 := Scalar.muli v7 c1_i32_1856
  let v1545 : BitVec 32 := Scalar.addi c0_i32_1857 v1544
  v1545.toNat
def k0_dev64 (d0 : Dev nD) : Nat :=
  let c0_i32_1867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1866 : BitVec 32 := 1#32
  let v1554 : BitVec 32 := Scalar.muli v5 c1_i32_1866
  let v1555 : BitVec 32 := Scalar.addi c0_i32_1867 v1554
  v1555.toNat
def k0_dev65 (d0 : Dev nD) : Nat :=
  let c0_i32_1920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1919 : BitVec 32 := 1#32
  let v1598 : BitVec 32 := Scalar.muli v5 c1_i32_1919
  let v1599 : BitVec 32 := Scalar.addi c0_i32_1920 v1598
  v1599.toNat
def k0_dev66 (d0 : Dev nD) : Nat :=
  let c0_i32_1923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1922 : BitVec 32 := 1#32
  let v1600 : BitVec 32 := Scalar.muli v7 c1_i32_1922
  let v1601 : BitVec 32 := Scalar.addi c0_i32_1923 v1600
  v1601.toNat
def k0_off8 (d0 : Dev nD) (c0_i32_1924 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1602 : BitVec 32 := Scalar.subi v2 c0_i32_1924
  let c32_i32_1925 : BitVec 32 := 32#32
  let v1603 : BitVec 32 := Scalar.addi v1602 c32_i32_1925
  let c16_i32_1926 : BitVec 32 := 16#32
  let v1604 : BitVec 32 := Scalar.remsi v1603 c16_i32_1926
  let c512_i32_1927 : BitVec 32 := 512#32
  let v1605 : BitVec 32 := Scalar.muli v1604 c512_i32_1927
  let c0_i32_1933 : BitVec 32 := 0#32
  ![v1605.toNat, 0]
def k0_off9 (d0 : Dev nD) (c0_i32_1928 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1606 : BitVec 32 := Scalar.addi v2 c0_i32_1928
  let c32_i32_1929 : BitVec 32 := 32#32
  let v1607 : BitVec 32 := Scalar.addi v1606 c32_i32_1929
  let c16_i32_1930 : BitVec 32 := 16#32
  let v1608 : BitVec 32 := Scalar.remsi v1607 c16_i32_1930
  let c512_i32_1931 : BitVec 32 := 512#32
  let v1609 : BitVec 32 := Scalar.muli v1608 c512_i32_1931
  let c2048_i32_1937 : BitVec 32 := 2048#32
  ![v1609.toNat, 2048]
def k0_dev67 (d0 : Dev nD) : Nat :=
  let c0_i32_1949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1948 : BitVec 32 := 1#32
  let v1616 : BitVec 32 := Scalar.muli v7 c1_i32_1948
  let v1617 : BitVec 32 := Scalar.addi c0_i32_1949 v1616
  v1617.toNat
def k0_dev68 (d0 : Dev nD) : Nat :=
  let c0_i32_1959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1958 : BitVec 32 := 1#32
  let v1626 : BitVec 32 := Scalar.muli v5 c1_i32_1958
  let v1627 : BitVec 32 := Scalar.addi c0_i32_1959 v1626
  v1627.toNat
def k0_dev69 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2011 : BitVec 32 := 1#32
  let v1670 : BitVec 32 := Scalar.muli v5 c1_i32_2011
  let v1671 : BitVec 32 := Scalar.addi c0_i32_2012 v1670
  v1671.toNat
def k0_dev70 (d0 : Dev nD) : Nat :=
  let c0_i32_2015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2014 : BitVec 32 := 1#32
  let v1672 : BitVec 32 := Scalar.muli v7 c1_i32_2014
  let v1673 : BitVec 32 := Scalar.addi c0_i32_2015 v1672
  v1673.toNat
def k0_dev71 (d0 : Dev nD) : Nat :=
  let c0_i32_2041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2040 : BitVec 32 := 1#32
  let v1688 : BitVec 32 := Scalar.muli v7 c1_i32_2040
  let v1689 : BitVec 32 := Scalar.addi c0_i32_2041 v1688
  v1689.toNat
def k0_dev72 (d0 : Dev nD) : Nat :=
  let c0_i32_2051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2050 : BitVec 32 := 1#32
  let v1698 : BitVec 32 := Scalar.muli v5 c1_i32_2050
  let v1699 : BitVec 32 := Scalar.addi c0_i32_2051 v1698
  v1699.toNat
def k0_dev73 (d0 : Dev nD) : Nat :=
  let c0_i32_2104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2103 : BitVec 32 := 1#32
  let v1742 : BitVec 32 := Scalar.muli v5 c1_i32_2103
  let v1743 : BitVec 32 := Scalar.addi c0_i32_2104 v1742
  v1743.toNat
def k0_dev74 (d0 : Dev nD) : Nat :=
  let c0_i32_2107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2106 : BitVec 32 := 1#32
  let v1744 : BitVec 32 := Scalar.muli v7 c1_i32_2106
  let v1745 : BitVec 32 := Scalar.addi c0_i32_2107 v1744
  v1745.toNat
def k0_dev75 (d0 : Dev nD) : Nat :=
  let c0_i32_2133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2132 : BitVec 32 := 1#32
  let v1760 : BitVec 32 := Scalar.muli v7 c1_i32_2132
  let v1761 : BitVec 32 := Scalar.addi c0_i32_2133 v1760
  v1761.toNat
def k0_dev76 (d0 : Dev nD) : Nat :=
  let c0_i32_2143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2142 : BitVec 32 := 1#32
  let v1770 : BitVec 32 := Scalar.muli v5 c1_i32_2142
  let v1771 : BitVec 32 := Scalar.addi c0_i32_2143 v1770
  v1771.toNat
def k0_dev77 (d0 : Dev nD) : Nat :=
  let c0_i32_2196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2195 : BitVec 32 := 1#32
  let v1814 : BitVec 32 := Scalar.muli v5 c1_i32_2195
  let v1815 : BitVec 32 := Scalar.addi c0_i32_2196 v1814
  v1815.toNat
def k0_dev78 (d0 : Dev nD) : Nat :=
  let c0_i32_2199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2198 : BitVec 32 := 1#32
  let v1816 : BitVec 32 := Scalar.muli v7 c1_i32_2198
  let v1817 : BitVec 32 := Scalar.addi c0_i32_2199 v1816
  v1817.toNat
def k0_dev79 (d0 : Dev nD) : Nat :=
  let c0_i32_2225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2224 : BitVec 32 := 1#32
  let v1832 : BitVec 32 := Scalar.muli v7 c1_i32_2224
  let v1833 : BitVec 32 := Scalar.addi c0_i32_2225 v1832
  v1833.toNat
def k0_dev80 (d0 : Dev nD) : Nat :=
  let c0_i32_2235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2234 : BitVec 32 := 1#32
  let v1842 : BitVec 32 := Scalar.muli v5 c1_i32_2234
  let v1843 : BitVec 32 := Scalar.addi c0_i32_2235 v1842
  v1843.toNat
def k0_dev81 (d0 : Dev nD) : Nat :=
  let c0_i32_2288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2287 : BitVec 32 := 1#32
  let v1886 : BitVec 32 := Scalar.muli v5 c1_i32_2287
  let v1887 : BitVec 32 := Scalar.addi c0_i32_2288 v1886
  v1887.toNat
def k0_dev82 (d0 : Dev nD) : Nat :=
  let c0_i32_2291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2290 : BitVec 32 := 1#32
  let v1888 : BitVec 32 := Scalar.muli v7 c1_i32_2290
  let v1889 : BitVec 32 := Scalar.addi c0_i32_2291 v1888
  v1889.toNat
def k0_dev83 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2316 : BitVec 32 := 1#32
  let v1904 : BitVec 32 := Scalar.muli v7 c1_i32_2316
  let v1905 : BitVec 32 := Scalar.addi c0_i32_2317 v1904
  v1905.toNat
def k0_dev84 (d0 : Dev nD) : Nat :=
  let c0_i32_2327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2326 : BitVec 32 := 1#32
  let v1914 : BitVec 32 := Scalar.muli v5 c1_i32_2326
  let v1915 : BitVec 32 := Scalar.addi c0_i32_2327 v1914
  v1915.toNat
def k0_dev85 (d0 : Dev nD) : Nat :=
  let c0_i32_2380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2379 : BitVec 32 := 1#32
  let v1958 : BitVec 32 := Scalar.muli v5 c1_i32_2379
  let v1959 : BitVec 32 := Scalar.addi c0_i32_2380 v1958
  v1959.toNat
def k0_dev86 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2382 : BitVec 32 := 1#32
  let v1960 : BitVec 32 := Scalar.muli v7 c1_i32_2382
  let v1961 : BitVec 32 := Scalar.addi c0_i32_2383 v1960
  v1961.toNat
def k0_dev87 (d0 : Dev nD) : Nat :=
  let c0_i32_2409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2408 : BitVec 32 := 1#32
  let v1976 : BitVec 32 := Scalar.muli v7 c1_i32_2408
  let v1977 : BitVec 32 := Scalar.addi c0_i32_2409 v1976
  v1977.toNat
def k0_dev88 (d0 : Dev nD) : Nat :=
  let c0_i32_2419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2418 : BitVec 32 := 1#32
  let v1986 : BitVec 32 := Scalar.muli v5 c1_i32_2418
  let v1987 : BitVec 32 := Scalar.addi c0_i32_2419 v1986
  v1987.toNat
def k0_dev89 (d0 : Dev nD) : Nat :=
  let c0_i32_2472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2471 : BitVec 32 := 1#32
  let v2030 : BitVec 32 := Scalar.muli v5 c1_i32_2471
  let v2031 : BitVec 32 := Scalar.addi c0_i32_2472 v2030
  v2031.toNat
def k0_dev90 (d0 : Dev nD) : Nat :=
  let c0_i32_2475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2474 : BitVec 32 := 1#32
  let v2032 : BitVec 32 := Scalar.muli v7 c1_i32_2474
  let v2033 : BitVec 32 := Scalar.addi c0_i32_2475 v2032
  v2033.toNat
def k0_dev91 (d0 : Dev nD) : Nat :=
  let c0_i32_2501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2500 : BitVec 32 := 1#32
  let v2048 : BitVec 32 := Scalar.muli v7 c1_i32_2500
  let v2049 : BitVec 32 := Scalar.addi c0_i32_2501 v2048
  v2049.toNat
def k0_dev92 (d0 : Dev nD) : Nat :=
  let c0_i32_2511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2510 : BitVec 32 := 1#32
  let v2058 : BitVec 32 := Scalar.muli v5 c1_i32_2510
  let v2059 : BitVec 32 := Scalar.addi c0_i32_2511 v2058
  v2059.toNat
def k0_dev93 (d0 : Dev nD) : Nat :=
  let c0_i32_2564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2563 : BitVec 32 := 1#32
  let v2102 : BitVec 32 := Scalar.muli v5 c1_i32_2563
  let v2103 : BitVec 32 := Scalar.addi c0_i32_2564 v2102
  v2103.toNat
def k0_dev94 (d0 : Dev nD) : Nat :=
  let c0_i32_2567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2566 : BitVec 32 := 1#32
  let v2104 : BitVec 32 := Scalar.muli v7 c1_i32_2566
  let v2105 : BitVec 32 := Scalar.addi c0_i32_2567 v2104
  v2105.toNat
def k0_dev95 (d0 : Dev nD) : Nat :=
  let c0_i32_2593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2592 : BitVec 32 := 1#32
  let v2120 : BitVec 32 := Scalar.muli v7 c1_i32_2592
  let v2121 : BitVec 32 := Scalar.addi c0_i32_2593 v2120
  v2121.toNat
def k0_dev96 (d0 : Dev nD) : Nat :=
  let c0_i32_2603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2602 : BitVec 32 := 1#32
  let v2130 : BitVec 32 := Scalar.muli v5 c1_i32_2602
  let v2131 : BitVec 32 := Scalar.addi c0_i32_2603 v2130
  v2131.toNat
def k0_dev97 (d0 : Dev nD) : Nat :=
  let c0_i32_2656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2655 : BitVec 32 := 1#32
  let v2174 : BitVec 32 := Scalar.muli v5 c1_i32_2655
  let v2175 : BitVec 32 := Scalar.addi c0_i32_2656 v2174
  v2175.toNat
def k0_dev98 (d0 : Dev nD) : Nat :=
  let c0_i32_2659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2658 : BitVec 32 := 1#32
  let v2176 : BitVec 32 := Scalar.muli v7 c1_i32_2658
  let v2177 : BitVec 32 := Scalar.addi c0_i32_2659 v2176
  v2177.toNat
def k0_dev99 (d0 : Dev nD) : Nat :=
  let c0_i32_2685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2684 : BitVec 32 := 1#32
  let v2192 : BitVec 32 := Scalar.muli v7 c1_i32_2684
  let v2193 : BitVec 32 := Scalar.addi c0_i32_2685 v2192
  v2193.toNat
def k0_dev100 (d0 : Dev nD) : Nat :=
  let c0_i32_2695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2694 : BitVec 32 := 1#32
  let v2202 : BitVec 32 := Scalar.muli v5 c1_i32_2694
  let v2203 : BitVec 32 := Scalar.addi c0_i32_2695 v2202
  v2203.toNat
def k0_dev101 (d0 : Dev nD) : Nat :=
  let c0_i32_2748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2747 : BitVec 32 := 1#32
  let v2246 : BitVec 32 := Scalar.muli v5 c1_i32_2747
  let v2247 : BitVec 32 := Scalar.addi c0_i32_2748 v2246
  v2247.toNat
def k0_dev102 (d0 : Dev nD) : Nat :=
  let c0_i32_2751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2750 : BitVec 32 := 1#32
  let v2248 : BitVec 32 := Scalar.muli v7 c1_i32_2750
  let v2249 : BitVec 32 := Scalar.addi c0_i32_2751 v2248
  v2249.toNat
def k0_dev103 (d0 : Dev nD) : Nat :=
  let c0_i32_2777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2776 : BitVec 32 := 1#32
  let v2264 : BitVec 32 := Scalar.muli v7 c1_i32_2776
  let v2265 : BitVec 32 := Scalar.addi c0_i32_2777 v2264
  v2265.toNat
def k0_dev104 (d0 : Dev nD) : Nat :=
  let c0_i32_2787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2786 : BitVec 32 := 1#32
  let v2274 : BitVec 32 := Scalar.muli v5 c1_i32_2786
  let v2275 : BitVec 32 := Scalar.addi c0_i32_2787 v2274
  v2275.toNat
def k0_dev105 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2839 : BitVec 32 := 1#32
  let v2318 : BitVec 32 := Scalar.muli v5 c1_i32_2839
  let v2319 : BitVec 32 := Scalar.addi c0_i32_2840 v2318
  v2319.toNat
def k0_dev106 (d0 : Dev nD) : Nat :=
  let c0_i32_2843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2842 : BitVec 32 := 1#32
  let v2320 : BitVec 32 := Scalar.muli v7 c1_i32_2842
  let v2321 : BitVec 32 := Scalar.addi c0_i32_2843 v2320
  v2321.toNat
def k0_dev107 (d0 : Dev nD) : Nat :=
  let c0_i32_2869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2868 : BitVec 32 := 1#32
  let v2336 : BitVec 32 := Scalar.muli v7 c1_i32_2868
  let v2337 : BitVec 32 := Scalar.addi c0_i32_2869 v2336
  v2337.toNat
def k0_dev108 (d0 : Dev nD) : Nat :=
  let c0_i32_2879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2878 : BitVec 32 := 1#32
  let v2346 : BitVec 32 := Scalar.muli v5 c1_i32_2878
  let v2347 : BitVec 32 := Scalar.addi c0_i32_2879 v2346
  v2347.toNat
def k0_dev109 (d0 : Dev nD) : Nat :=
  let c0_i32_2932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2931 : BitVec 32 := 1#32
  let v2390 : BitVec 32 := Scalar.muli v5 c1_i32_2931
  let v2391 : BitVec 32 := Scalar.addi c0_i32_2932 v2390
  v2391.toNat
def k0_dev110 (d0 : Dev nD) : Nat :=
  let c0_i32_2935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2934 : BitVec 32 := 1#32
  let v2392 : BitVec 32 := Scalar.muli v7 c1_i32_2934
  let v2393 : BitVec 32 := Scalar.addi c0_i32_2935 v2392
  v2393.toNat
def k0_dev111 (d0 : Dev nD) : Nat :=
  let c0_i32_2961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2960 : BitVec 32 := 1#32
  let v2408 : BitVec 32 := Scalar.muli v7 c1_i32_2960
  let v2409 : BitVec 32 := Scalar.addi c0_i32_2961 v2408
  v2409.toNat
def k0_dev112 (d0 : Dev nD) : Nat :=
  let c0_i32_2971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2970 : BitVec 32 := 1#32
  let v2418 : BitVec 32 := Scalar.muli v5 c1_i32_2970
  let v2419 : BitVec 32 := Scalar.addi c0_i32_2971 v2418
  v2419.toNat
def k0_dev113 (d0 : Dev nD) : Nat :=
  let c0_i32_3024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3023 : BitVec 32 := 1#32
  let v2462 : BitVec 32 := Scalar.muli v5 c1_i32_3023
  let v2463 : BitVec 32 := Scalar.addi c0_i32_3024 v2462
  v2463.toNat
def k0_dev114 (d0 : Dev nD) : Nat :=
  let c0_i32_3027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3026 : BitVec 32 := 1#32
  let v2464 : BitVec 32 := Scalar.muli v7 c1_i32_3026
  let v2465 : BitVec 32 := Scalar.addi c0_i32_3027 v2464
  v2465.toNat
def k0_dev115 (d0 : Dev nD) : Nat :=
  let c0_i32_3053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3052 : BitVec 32 := 1#32
  let v2480 : BitVec 32 := Scalar.muli v7 c1_i32_3052
  let v2481 : BitVec 32 := Scalar.addi c0_i32_3053 v2480
  v2481.toNat
def k0_dev116 (d0 : Dev nD) : Nat :=
  let c0_i32_3063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3062 : BitVec 32 := 1#32
  let v2490 : BitVec 32 := Scalar.muli v5 c1_i32_3062
  let v2491 : BitVec 32 := Scalar.addi c0_i32_3063 v2490
  v2491.toNat
def k0_dev117 (d0 : Dev nD) : Nat :=
  let c0_i32_3139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3138 : BitVec 32 := 1#32
  let v2548 : BitVec 32 := Scalar.muli v7 c1_i32_3138
  let v2549 : BitVec 32 := Scalar.addi c0_i32_3139 v2548
  v2549.toNat
def k0_dev118 (d0 : Dev nD) : Nat :=
  let c0_i32_3149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3148 : BitVec 32 := 1#32
  let v2558 : BitVec 32 := Scalar.muli v5 c1_i32_3148
  let v2559 : BitVec 32 := Scalar.addi c0_i32_3149 v2558
  v2559.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
  The kernel's body as a loop: the printed body is thirty hops of the two rings written out one after the other, with
  every slot, semaphore and row a literal. Here the same program is stated once, at a symbolic hop, and the printed body
  is shown equal to the thirty hops in a row.

  `s = false` is the ring that sends to the right neighbour (columns 0–2047 of the result), `s = true` the ring
  that sends to the left neighbour (columns 2048–4095).
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions

@[expose] public section

noncomputable section

namespace Cert.KernelIdeal.Two

open Idealize.ShloMosaic Idealize.ShloMosaic.TcCoe Idealize.SL Idealize.SL.Sem
open Cert.KernelIdeal Cert.KernelIdeal.Gen

variable {F : FTy → Type} [FloatOps F]

/-- Programs of the device's core. -/
abbrev PM (F : FTy → Type) [FloatOps F] (α : Type) := Prog (TpuEff nD τ sig (Elt F) Λ₀ .tc) α

/-- The slot of a three-slot buffer that number `n` falls on. -/
def sl (n : ℕ) : Fin 3 := ⟨n % 3, Nat.mod_lt _ (by decide)⟩
/-- The slot of a two-slot buffer that number `n` falls on. -/
def par (n : ℕ) : Fin 2 := ⟨n % 2, Nat.mod_lt _ (by decide)⟩

/-- The neighbour a ring sends to: the right one on ring `false`, the left one on ring `true`. -/
def peer (s : Bool) (c : Dev nD) : Dev nD :=
  match s with
  | false => ⟨k0_dev3 c, k0_dev3_lt c⟩
  | true => ⟨k0_dev4 c, k0_dev4_lt c⟩

theorem inb_comm (r : Fin 3) : ∀ a, (![r.val, 0, 0] : Fin 3 → ℕ) a + S1x512x2048.size a ≤ S3x512x2048.size a := by
  revert r; decide
theorem inb_xs (p : Fin 2) : ∀ a, (![p.val, 0, 0] : Fin 3 → ℕ) a + S1x512x512.size a ≤ S2x512x512.size a := by
  revert p; decide
theorem inb_sem (r : Fin 3) : ∀ a, (![r.val] : Fin 1 → ℕ) a + S1.size a ≤ S3.size a := by
  revert r; decide

/-- The device's block of x, of w and the result. -/
abbrev xM : Memref sig .tc .hbm S8192x512 .f32 := Memref.whole main_arg0
abbrev wM : Memref sig .tc .vmem S512x4096 .f32 := Memref.whole cc0_stg0_0
abbrev oM : Memref sig .tc .hbm S8192x4096 .f32 := Memref.whole main_v1
abbrev xiM : Memref sig .tc .vmem S512x512 .f32 := Memref.whole cc0_scratch6

/-- The three-slot buffer of a ring. -/
def commM (s : Bool) : Memref sig .tc .vmem S3x512x2048 .f32 :=
  match s with
  | false => Memref.whole cc0_scratch0
  | true => Memref.whole cc0_scratch1
/-- The buffer of a ring's current partial product. -/
def tmpM (s : Bool) : Memref sig .tc .vmem S512x2048 .f32 :=
  match s with
  | false => Memref.whole cc0_scratch2
  | true => Memref.whole cc0_scratch3
/-- The two-slot buffer of a ring's rows of x. -/
def xsA (s : Bool) : Memref sig .tc .vmem S2x512x512 .f32 :=
  match s with
  | false => Memref.whole cc0_scratch4
  | true => Memref.whole cc0_scratch5

/-- The rectangle of one slot. -/
abbrev slotR (r : Fin 3) : Rect S3x512x2048 := Rect.unit (s := S3x512x2048) ![r.val, 0, 0] S1x512x2048.size (inb_comm r)
abbrev xsR (p : Fin 2) : Rect S2x512x512 := Rect.unit (s := S2x512x512) ![p.val, 0, 0] S1x512x512.size (inb_xs p)
abbrev tmpR : Rect S512x2048 := Rect.unit (s := S512x2048) ![0, 0] S512x2048.size inb_S512x2048_S512x2048_0_0
abbrev xiR : Rect S512x512 := Rect.unit (s := S512x512) ![0, 0] S512x512.size inb_S512x512_S512x512_0_0

/-- One slot of a ring's buffer. -/
abbrev slotM (s : Bool) (r : Fin 3) : Memref sig .tc .vmem S512x2048 .f32 :=
  ((commM s).slice (slotR r) (fun _ => rfl)).squeeze S512x2048 squeezes_S1x512x2048_S512x2048
/-- One slot of a ring's rows of x. -/
abbrev xsM (s : Bool) (p : Fin 2) : Memref sig .tc .vmem S512x512 .f32 :=
  ((xsA s).slice (xsR p) (fun _ => rfl)).squeeze S512x512 squeezes_S1x512x512_S512x512

/-- The offset of the rows of x that hop `h` multiplies. -/
def xOff (s : Bool) (c : Dev nD) (h : ℕ) : Fin 2 → ℕ :=
  match s, h with
  | false, 0 => k0_off2 c
  | true, 0 => k0_off3 c
  | false, n + 1 => k0_off4 c (BitVec.ofNat 32 (n % 14))
  | true, n + 1 => k0_off5 c (BitVec.ofNat 32 (n % 14))
theorem xOff_inb (s : Bool) (c : Dev nD) (h : ℕ) : ∀ a, xOff s c h a + S512x512.size a ≤ S8192x512.size a :=
  match s, h with
  | false, 0 => k0_off2_inb c
  | true, 0 => k0_off3_inb c
  | false, n + 1 => k0_off4_inb c ⟨n % 14, Nat.mod_lt _ (by decide)⟩
  | true, n + 1 => k0_off5_inb c ⟨n % 14, Nat.mod_lt _ (by decide)⟩
/-- The rows of x that hop `h` multiplies. -/
abbrev xRow (s : Bool) (c : Dev nD) (h : ℕ) : Memref sig .tc .hbm S512x512 .f32 :=
  xM.slice (Rect.unit (s := S8192x512) (xOff s c h) S512x512.size (xOff_inb s c h)) (fun _ => rfl)
/-- The device's own rows of x. -/
abbrev xOwn (c : Dev nD) : Memref sig .tc .hbm S512x512 .f32 :=
  xM.slice (Rect.unit (s := S8192x512) (k0_off1 c) S512x512.size (k0_off1_inb c)) (fun _ => rfl)

/-- The offset of the block of the result that output `j` writes. -/
def oOff (s : Bool) (c : Dev nD) (j : ℕ) : Fin 2 → ℕ :=
  match s, j with
  | false, 0 => k0_off6 c
  | true, 0 => k0_off7 c
  | false, n + 1 => k0_off8 c (BitVec.ofNat 32 (n % 15))
  | true, n + 1 => k0_off9 c (BitVec.ofNat 32 (n % 15))
theorem oOff_inb (s : Bool) (c : Dev nD) (j : ℕ) : ∀ a, oOff s c j a + S512x2048.size a ≤ S8192x4096.size a :=
  match s, j with
  | false, 0 => k0_off6_inb c
  | true, 0 => k0_off7_inb c
  | false, n + 1 => k0_off8_inb c ⟨n % 15, Nat.mod_lt _ (by decide)⟩
  | true, n + 1 => k0_off9_inb c ⟨n % 15, Nat.mod_lt _ (by decide)⟩
/-- The block of the result that output `j` writes. -/
abbrev oBlk (s : Bool) (c : Dev nD) (j : ℕ) : Memref sig .tc .hbm S512x2048 .f32 :=
  oM.slice (Rect.unit (s := S8192x4096) (oOff s c j) S512x2048.size (oOff_inb s c j)) (fun _ => rfl)

/-! ## Semaphores -/

/-- One cell of a three-cell array of transfer semaphores. -/
abbrev sem3 (a : DmaSems sig S3) (r : Fin 3) : DmaSem sig :=
  ((a.slice (Rect.unit (s := S3) ![r.val] S1.size (inb_sem r))).squeeze S_ squeezes_S1_S_).sem
def sendS (s : Bool) (r : Fin 3) : DmaSem sig :=
  match s with
  | false => sem3 cc0_scratch7 r
  | true => sem3 cc0_scratch9 r
def recvS (s : Bool) (r : Fin 3) : DmaSem sig :=
  match s with
  | false => sem3 cc0_scratch8 r
  | true => sem3 cc0_scratch10 r
def xiS : DmaSem sig := cc0_scratch11.sem
def xS (s : Bool) : DmaSem sig :=
  match s with
  | false => cc0_scratch12.sem
  | true => cc0_scratch13.sem
def outS (s : Bool) : DmaSem sig :=
  match s with
  | false => cc0_scratch14.sem
  | true => cc0_scratch15.sem
def credS (s : Bool) : Sem sig :=
  match s with
  | false => cc0_scratch16.sem
  | true => cc0_scratch17.sem
def barS : Sem sig := (SemArray.scalar (sig.barrier 0 rfl) : Sems sig S_).sem

/-! ## Steps -/

/-- Do `p` where `b` holds. -/
abbrev whenP (b : Prop) [Decidable b] (p : PM F PUnit) : PM F PUnit := if b then p else pure ⟨⟩

def creditWait (s : Bool) : PM F PUnit := semWaitWord (credS s) 1#32

def send (s : Bool) (c : Dev nD) (h : ℕ) : PM F PUnit :=
  Prog.lift (.enqueueDma (slotM s (sl h)) (.remote (Dev.tc (peer s c)) (slotM s (sl (h + 1))) (.dma (sendS s (sl h))))
    (.dma (recvS s (sl (h + 1)))) (by cases s <;> exact (View.wordExact_bits rfl).reshape _ _)
    (by cases s <;> exact (View.wordExact_bits rfl).reshape _ _) (by cases s <;> exact ⟨⟨rfl, Or.inl rfl⟩, trivial⟩))

def xStart (s : Bool) (c : Dev nD) (h : ℕ) : PM F PUnit :=
  Prog.lift (.enqueueDma (xRow s c h) (.here (xsM s (par h))) (.dma (xS s)) (View.wordExact_bits rfl)
    (by cases s <;> exact (View.wordExact_bits rfl).reshape _ _) (by cases s <;> exact ⟨Or.inl rfl, trivial⟩))

def xWait (s : Bool) (c : Dev nD) (h : ℕ) : PM F PUnit :=
  Prog.lift (.waitDma2 (xS s) (xRow s c h) (xsM s (par h)) (View.wordExact_bits rfl)
    (by cases s <;> exact (View.wordExact_bits rfl).reshape _ _))

/-- The partial product of hop `h`, into the ring's product buffer. -/
def partialP (s : Bool) (w : FVec F S512x2048 .f32) (h : ℕ) : PM F PUnit := do
  let v : Vec F S1x512x512 .f32 ← Prog.lift (.load (xsA s) (xsR (par h)).toLoadRect
    (by cases s <;> exact View.loadsAt_vmem h_S1x512x512))
  let _v' : Vec F S512x2048 .f32 ← Prog.lift (.load (tmpM s) tmpR.toLoadRect
    (by cases s <;> exact View.loadsAt_vmem h_S512x2048))
  Prog.lift (.store (tmpM s) tmpR (k0_pay5 w v) Finset.univ
    (by cases s <;> exact View.stores_vmem_bits_univ h_S512x2048 rfl) (.inl rfl))

def sendWait (s : Bool) (h : ℕ) : PM F PUnit :=
  Prog.lift (.waitDma2 (sendS s (sl h)) (slotM s (sl (h + 1))) (slotM s (sl h))
    (by cases s <;> exact (View.wordExact_bits rfl).reshape _ _)
    (by cases s <;> exact (View.wordExact_bits rfl).reshape _ _))

def recvWait (s : Bool) (h : ℕ) : PM F PUnit :=
  Prog.lift (.waitDma2 (recvS s (sl (h + 1))) (slotM s (sl h)) (slotM s (sl (h + 1)))
    (by cases s <;> exact (View.wordExact_bits rfl).reshape _ _)
    (by cases s <;> exact (View.wordExact_bits rfl).reshape _ _))

def credit (s : Bool) (c : Dev nD) : PM F PUnit := semSignalWord (peer (!s) c) (credS s) 1#32

/-- The arrived partial sum plus the device's own product, into slot `r` of the ring's buffer. -/
def addP (s : Bool) (r : Fin 3) : PM F PUnit := do
  let v : Vec F S1x512x2048 .f32 ← Prog.lift (.load (commM s) (slotR r).toLoadRect
    (by cases s <;> exact View.loadsAt_vmem h_S1x512x2048))
  let t : Vec F S512x2048 .f32 ← Prog.lift (.load (tmpM s) tmpR.toLoadRect
    (by cases s <;> exact View.loadsAt_vmem h_S512x2048))
  let _v' : Vec F S1x512x2048 .f32 ← Prog.lift (.load (commM s) (slotR r).toLoadRect
    (by cases s <;> exact View.loadsAt_vmem h_S1x512x2048))
  Prog.lift (.store (commM s) (slotR r) (k0_pay7 v t) Finset.univ
    (by cases s <;> exact View.stores_vmem_bits_univ h_S1x512x2048 rfl) (.inl rfl))

/-- The device's own product, into slot 0 of the ring's buffer. -/
def initP (s : Bool) (w : FVec F S512x2048 .f32) : PM F PUnit := do
  let v : Vec F S512x512 .f32 ← Prog.lift (.load xiM xiR.toLoadRect (View.loadsAt_vmem h_S512x512))
  let _v' : Vec F S1x512x2048 .f32 ← Prog.lift (.load (commM s) (slotR 0).toLoadRect
    (by cases s <;> exact View.loadsAt_vmem h_S1x512x2048))
  Prog.lift (.store (commM s) (slotR 0) (k0_pay3 w v) Finset.univ
    (by cases s <;> exact View.stores_vmem_bits_univ h_S1x512x2048 rfl) (.inl rfl))

def outStart (s : Bool) (c : Dev nD) (r : Fin 3) (j : ℕ) : PM F PUnit :=
  Prog.lift (.enqueueDma (slotM s r) (.here (oBlk s c j)) (.dma (outS s))
    (by cases s <;> exact (View.wordExact_bits rfl).reshape _ _) (View.wordExact_bits rfl)
    (by cases s <;> exact ⟨Or.inl rfl, trivial⟩))

def outWait (s : Bool) (c : Dev nD) (j : ℕ) : PM F PUnit :=
  Prog.lift (.waitDma2 (outS s) (slotM s 0) (oBlk s c j)
    (by cases s <;> exact (View.wordExact_bits rfl).reshape _ _) (View.wordExact_bits rfl))

/-! ## The hop -/

/-- Multiplying part of a hop: the rows of x that arrived, the next rows started, the two products. -/
def mulP (c : Dev nD) (wa wb : FVec F S512x2048 .f32) (h : ℕ) : PM F PUnit := do
  xWait false c h
  xWait true c h
  whenP (h + 1 < 15) do
    xStart false c (h + 1)
    xStart true c (h + 1)
  partialP false wa h
  partialP true wb h

/-- The waits of a hop: both its sends gone, both its arrivals here. -/
def dmaWaits (h : ℕ) : PM F PUnit := do
  sendWait false h
  recvWait false h
  sendWait true h
  recvWait true h

def hop (c : Dev nD) (wa wb : FVec F S512x2048 .f32) (h : ℕ) : PM F PUnit := do
  whenP (2 ≤ h) do
    creditWait false
    creditWait true
  send false c h
  send true c h
  whenP (h < 15) (mulP c wa wb h)
  dmaWaits h
  whenP (15 ≤ h) do
    outWait false c (h - 15)
    outWait true c (h - 15)
  whenP (h < 28) do
    credit false c
    credit true c
  whenP (h < 15) do
    addP false (sl (h + 1))
    addP true (sl (h + 1))
  whenP (14 ≤ h) do
    outStart false c (sl (h + 1)) (h - 14)
    outStart true c (sl (h + 1)) (h - 14)

/-- `n` hops from hop `h` on. -/
def hops (c : Dev nD) (wa wb : FVec F S512x2048 .f32) : ℕ → ℕ → PM F PUnit
  | 0, _ => pure ⟨⟩
  | n + 1, h => do
    hop c wa wb h
    hops c wa wb n (h + 1)

/-- The neighbours' handshake. -/
def hello (c : Dev nD) : PM F PUnit := do
  semSignalWord (peer true c) barS 1#32
  semSignalWord (peer false c) barS 1#32
  semWaitWord barS 2#32

/-- What precedes the hops, from the device's number and the two halves of its block of w. -/
def setup (c : Dev nD) (wa wb : FVec F S512x2048 .f32) : PM F PUnit := do
  Prog.lift (.enqueueDma (xOwn c) (.here xiM) (.dma xiS) (View.wordExact_bits rfl) (Memref.isWhole_whole _).wordExact
    ⟨Or.inl rfl, trivial⟩)
  xStart false c 0
  xStart true c 0
  Prog.lift (.waitDma2 xiS (xOwn c) xiM (View.wordExact_bits rfl) (Memref.isWhole_whole _).wordExact)
  initP false wa
  initP true wb

/-- What follows the hops: the last two output copies. -/
def finish (c : Dev nD) : PM F PUnit := do
  outWait false c 15
  outWait true c 15

/-- The whole body. -/
def bodyP : PM F PUnit := do
  let c : Dev nD ← Prog.lift .deviceId
  hello c
  let va : Vec F S512x2048 .f32 ← Prog.lift (.load wM (Rect.unit (s := S512x4096) ![0, 0] S512x2048.size
    inb_S512x4096_S512x2048_0_0).toLoadRect (View.loadsAt_vmem h_S512x2048))
  let vb : Vec F S512x2048 .f32 ← Prog.lift (.load wM (Rect.unit (s := S512x4096) ![0, 2048] S512x2048.size
    inb_S512x4096_S512x2048_0_2048).toLoadRect (View.loadsAt_vmem h_S512x2048))
  setup c (k0_pay1 va) (k0_pay2 vb)
  hops c (k0_pay1 va) (k0_pay2 vb) 30 0
  finish c

/-- The printed body is the thirty hops in a row. -/
theorem body_eq : bodyAt0 (F := F) t0_0 = bodyP := by
  unfold bodyAt0
  rw [cc0_body_eq_skeleton]
  chain_rfl

end Cert.KernelIdeal.Two

end
-- ==== Proof.Base.lean ====
/-
  The protocol of the two rings. What a slot holds at every hop (`acc`), which transfer or signal pays which round of
  which semaphore and what it hands over (`twoRd`), and the tables of that schedule.

  Hop `h` sends slot `h % 3` to the neighbour's slot `(h + 1) % 3`. The round of the sending semaphore and of the
  receiving semaphore that hop `h` pays is `h / 3`. A neighbour's slot is free for the first two hops from the handshake
  on, and for every later hop by a credit the neighbour signals.

  Credits are unordered units of one counter: a neighbour may signal its next credit before the last one is taken. So a
  credit's slot is put aside when the credit is signalled (`escB`), under a count of the credits signalled so far, and
  what a unit hands over is only that this many credits have been signalled. The device that has taken `k` units knows
  that credit `k` was signalled by the next one it takes, and takes that credit's slot.
-/
module

public import proofs.«01_k».proof.Proof.Prog
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the pipeline's, the rings' rounds, and the counters of the local copies -/

abbrev UB : Type := URounds (GSem nD τ sig) ℕ
/-- The counts of a ring's credits: `(false, s, c)` the credits signalled to ring `s`'s semaphore on device `c`,
    `(true, s, c)` the credits taken from it. -/
abbrev UQ : Type := URounds (Bool × Bool × Dev nD) Unit
abbrev UU : Type := UR sig nD τ × (UB × (UQ × Counters))

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × (UQ × Counters))).trans embR
def EQ : Emb UQ (MT nD τ sig ℕ (Elt F) ℕ UU ℕ) :=
  ((Emb.inl : Emb UQ (UQ × Counters)).trans (Emb.inr : Emb (UQ × Counters) (UB × (UQ × Counters)))).trans embR
abbrev EC : UEmb Counters (MT nD τ sig ℕ (Elt F) ℕ UU ℕ) := countersEmb

instance ER_landsIn : (ER (F := F)).LandsIn (upEmb : UEmb _ 𝕄) := by unfold ER embR; infer_instance
instance EQ_landsIn : (EQ (F := F)).LandsIn (upEmb : UEmb _ 𝕄) := by unfold EQ embR; infer_instance

abbrev 𝒱₀ : Variants := Variants.none

/-- The weakest precondition of a program of device `c`'s core. -/
abbrev WP (c : Dev nD) {α : Type} (p : PM F α) (K : α → sProp 𝕄) : sProp 𝕄 :=
  wp frame (wpE (defs₀ (F := F)) 𝒱₀ (c : Thread nD τ) none) Set.univ p K

/-! ## The ring -/

theorem peer_val (s : Bool) (c : Dev nD) : (peer s c).val = (c.val + (if s then 15 else 1)) % 16 := by
  cases s
  · exact k0_dev3_eq c
  · exact k0_dev4_eq c
theorem peer_peer (s : Bool) (c : Dev nD) : peer (!s) (peer s c) = c := by
  apply Fin.ext
  have hc : c.val < 16 := c.isLt
  rw [peer_val, peer_val]
  cases s <;> simp <;> omega
theorem peer_peer' (s : Bool) (c : Dev nD) : peer s (peer (!s) c) = c := by
  have := peer_peer (!s) c; rwa [Bool.not_not] at this
theorem peer_ne (c : Dev nD) : peer false c ≠ peer true c := by
  intro h
  have hc : c.val < 16 := c.isLt
  have := congrArg Fin.val h
  rw [peer_val, peer_val] at this
  simp at this; omega
/-- A ring's neighbour map, as a permutation of the devices. -/
def ring (s : Bool) : Dev nD ≃ Dev nD := ⟨peer s, peer (!s), peer_peer s, peer_peer' s⟩

theorem sl_add3 (n : ℕ) : sl (n + 3) = sl n := Fin.ext (Nat.add_mod_right n 3)
theorem sl_val (n : ℕ) : (sl n).val = n % 3 := rfl

/-! ## The semaphores, told apart -/

/-- What a semaphore is for: the handshake, a slot's send or arrival, a ring's credits, or none of the rings'. -/
inductive CK : Type
  | bar
  | snd (s : Bool) (i : Fin 3)
  | rcv (s : Bool) (i : Fin 3)
  | crd (s : Bool)
  | oth
  deriving DecidableEq

/-- What a transfer semaphore is for, by its number. -/
def kindD : ℕ → CK
  | 1 => .snd false 0 | 2 => .snd false 1 | 3 => .snd false 2
  | 4 => .rcv false 0 | 5 => .rcv false 1 | 6 => .rcv false 2
  | 7 => .snd true 0 | 8 => .snd true 1 | 9 => .snd true 2
  | 10 => .rcv true 0 | 11 => .rcv true 1 | 12 => .rcv true 2
  | _ => .oth
/-- What a regular semaphore is for, by its number. -/
def kindR : ℕ → CK
  | 0 => .crd false | 1 => .crd true | 2 => .bar | _ => .oth
def kind : SemLoc sig → CK
  | .dma i => kindD i.val
  | .reg i => kindR i.val

theorem kind_snd (s : Bool) (i : Fin 3) : kind (.dma (sendS s i)) = .snd s i := by
  cases s <;> fin_cases i <;> rfl
theorem kind_rcv (s : Bool) (i : Fin 3) : kind (.dma (recvS s i)) = .rcv s i := by
  cases s <;> fin_cases i <;> rfl
theorem kind_crd (s : Bool) : kind (.reg (credS s)) = .crd s := by cases s <;> rfl
theorem kind_bar : kind (.reg barS) = .bar := rfl
theorem kind_xi : kind (.dma xiS) = .oth := rfl
theorem kind_x (s : Bool) : kind (.dma (xS s)) = .oth := by cases s <;> rfl
theorem kind_out (s : Bool) : kind (.dma (outS s)) = .oth := by cases s <;> rfl

abbrev barCell (c : Dev nD) : GSem nD τ sig := ((c : Thread nD τ), .reg barS)
abbrev sendCell (s : Bool) (c : Dev nD) (i : Fin 3) : GSem nD τ sig := ((c : Thread nD τ), .dma (sendS s i))
abbrev recvCell (s : Bool) (c : Dev nD) (i : Fin 3) : GSem nD τ sig := ((c : Thread nD τ), .dma (recvS s i))
abbrev credCell (s : Bool) (c : Dev nD) : GSem nD τ sig := ((c : Thread nD τ), .reg (credS s))

/-- The credit of one slot's transfer. -/
@[irreducible] def N : ℕ := (slotM false 0).view.dmaCredit
theorem N_pos : 0 < N := by unfold N; exact View.dmaCredit_pos _ (by show 0 < S512x2048.numel; decide)
theorem N_slot (s : Bool) (i : Fin 3) : (slotM s i).view.dmaCredit = N := by
  unfold N; cases s <;> rfl

/-! ## Contents -/

section Contents
variable (m : (ℓ : Loc nD τ sig) → Buf (Elt F) ℓ)

/-- Device `c`'s block of w, as staged. -/
def wst (c : Dev nD) : (cc0_stg0_0 : Ref sig .tc).ty.Contents (Elt F) :=
  (win0_0.blk (0 : Fin 1)).view.read (Elt F) (m ((c : Thread nD τ).loc main_arg1))

abbrev waR : Rect S512x4096 := Rect.unit (s := S512x4096) ![0, 0] S512x2048.size inb_S512x4096_S512x2048_0_0
abbrev wbR : Rect S512x4096 := Rect.unit (s := S512x4096) ![0, 2048] S512x2048.size inb_S512x4096_S512x2048_0_2048

/-- The half of device `c`'s block of w that ring `s` multiplies with. -/
def wH (s : Bool) (c : Dev nD) : FVec F S512x2048 .f32 :=
  match s with
  | false => k0_pay1 ((wM).view.readAt (Elt F) waR.toLoadRect (wst m c))
  | true => k0_pay2 ((wM).view.readAt (Elt F) wbR.toLoadRect (wst m c))

/-- The rows of x that hop `h` of ring `s` multiplies, and the device's own rows. -/
def xRowV (s : Bool) (c : Dev nD) (h : ℕ) : FVec F S512x512 .f32 :=
  (xRow s c h).view.read (Elt F) (m ((c : Thread nD τ).loc main_arg0))
def xOwnV (c : Dev nD) : FVec F S512x512 .f32 :=
  (xOwn c).view.read (Elt F) (m ((c : Thread nD τ).loc main_arg0))

/-- The product of a block of x and a half of the block of w. -/
def mm (w : FVec F S512x2048 .f32) (v : FVec F S512x512 .f32) : FVec F S512x2048 .f32 :=
  matmul dot_S512x512_S512x2048_S512x2048_1_0_0_1_n_n none v w (constant S512x2048 .f32 0#32)

/-- What slot `h % 3` of ring `s` on device `c` holds when hop `h` sends it: the device's own rows' product at first;
    after hop `h < 15` what the neighbour sent plus the product of that hop; after a later hop what the neighbour sent. -/
def acc (s : Bool) : Dev nD → ℕ → FVec F S512x2048 .f32
  | c, 0 => mm (wH m s c) (xOwnV m c)
  | c, h + 1 => if h < 15 then addf (acc s (peer (!s) c) h) (mm (wH m s c) (xRowV m s c h)) else acc s (peer (!s) c) h

theorem acc_add (s : Bool) (c : Dev nD) (h : ℕ) (hh : h < 15) :
    acc m s c (h + 1) = addf (acc m s (peer (!s) c) h) (mm (wH m s c) (xRowV m s c h)) := by
  rw [acc, if_pos hh]
theorem acc_pass (s : Bool) (c : Dev nD) (h : ℕ) (hh : ¬ h < 15) : acc m s c (h + 1) = acc m s (peer (!s) c) h := by
  rw [acc, if_neg hh]

end Contents

/-! ## The schedule -/

section Schedule
variable (m : (ℓ : Loc nD τ sig) → Buf (Elt F) ℓ)

/-- A memref owned outright, at some contents. -/
def anyOf (c : Dev nD) {sp : Space} {sh : Shape} {e : EltTy} (M : Memref sig .tc sp sh e) : sProp 𝕄 :=
  iprop(∃ X, owns (c : Thread nD τ) M fullShare X)

instance anyOf_storable (c : Dev nD) {sp : Space} {sh : Shape} {e : EltTy} (M : Memref sig .tc sp sh e) :
    BI.Storable (upEmb : UEmb _ 𝕄) (anyOf (F := F) c M) := by unfold anyOf; infer_instance

/-- What device `c` needs to send at hop `n`: the neighbour's slot, free, at the round the arrival pays. -/
def PS (s : Bool) (c : Dev nD) (n : ℕ) : sProp 𝕄 :=
  iprop(anyOf (peer s c) (slotM s (sl (n + 1))) ∗ reached ER (recvCell s (peer s c) (sl (n + 1))) (n / 3))

instance PS_storable (s : Bool) (c : Dev nD) (n : ℕ) : BI.Storable (upEmb : UEmb _ 𝕄) (PS (F := F) s c n) := by
  unfold PS; infer_instance

/-- What hop `h`'s send gives back: the half share of the slot it read. -/
def sendPay (s : Bool) (c : Dev nD) (h : ℕ) : sProp 𝕄 := owns (c : Thread nD τ) (slotM s (sl h)) fullShare.left (acc m s c h)
/-- What the neighbour's send of hop `h` brings. -/
def recvPay (s : Bool) (c : Dev nD) (h : ℕ) : sProp 𝕄 :=
  owns (c : Thread nD τ) (slotM s (sl (h + 1))) fullShare (acc m s (peer (!s) c) h)

instance sendPay_storable (s : Bool) (c : Dev nD) (h : ℕ) : BI.Storable (upEmb : UEmb _ 𝕄) (sendPay m s c h) := by
  unfold sendPay; infer_instance
instance recvPay_storable (s : Bool) (c : Dev nD) (h : ℕ) : BI.Storable (upEmb : UEmb _ 𝕄) (recvPay m s c h) := by
  unfold recvPay; infer_instance

/-- The count of credits signalled to ring `s`'s semaphore on device `c`, and of those taken. -/
abbrev iq (s : Bool) (c : Dev nD) : Bool × Bool × Dev nD := (false, s, c)
abbrev tq (s : Bool) (c : Dev nD) : Bool × Bool × Dev nD := (true, s, c)

/-- Where the slots of the credits to device `c` wait: of `n` credits signalled and `k` taken, those from `k` to `n`. -/
def escB (s : Bool) (c : Dev nD) : sProp 𝕄 :=
  iprop(∃ n k, ⌜k ≤ n⌝ ∗ roundAuth EQ (iq s c) n ∅ 0 ∗ roundAuth EQ (tq s c) k ∅ 0
    ∗ bigSep (Finset.Ico k n) fun i => PS s c (i + 2))

instance escB_storable (s : Bool) (c : Dev nD) : BI.Storable (upEmb : UEmb _ 𝕄) (escB (F := F) s c) := by
  unfold escB roundAuth; infer_instance

def dutiesK : CK → ℕ → Finset ℕ
  | .bar, r => if r = 0 then Finset.range 2 else ∅
  | .snd _ _, r => if r < 10 then {0} else ∅
  | .rcv _ _, r => if r < 10 then {0} else ∅
  | .crd _, r => if r = 0 then Finset.range 28 else ∅
  | .oth, _ => ∅
def amountK : CK → ℕ
  | .snd _ _ => N
  | .rcv _ _ => N
  | _ => 1
/-- The number of a ring, as the handshake's payer. -/
def num (s : Bool) : ℕ := if s then 1 else 0
def payK (c : Dev nD) : CK → ℕ → ℕ → sProp 𝕄
  | .bar, _, d => iprop(PS (decide (d = 1)) c 0 ∗ PS (decide (d = 1)) c 1)
  | .snd s i, r, _ => sendPay m s c (3 * r + i.val)
  | .rcv s i, r, _ => recvPay m s c (3 * r + (i.val + 2) % 3)
  | .crd s, _, d => reached EQ (iq s c) (d + 1)
  | .oth, _, _ => iprop(emp)

/-- The rounds of every semaphore. A slot's send and arrival have one payer each in ten rounds; the handshake has two
    payers and a ring's credits twenty-eight, in one round. -/
def twoRd : Rounds.Schedule (GSem nD τ sig) ℕ 𝕄 where
  duties g r := if g.1.2 = .tc then dutiesK (kind g.2) r else ∅
  unitless _ := False
  amount g _ _ := amountK (kind g.2)
  payload g r d := payK m g.1.1 (kind g.2) r d
  amount_pos g _ _ _ := by
    show 0 < amountK (kind g.2)
    unfold amountK
    split
    · exact N_pos
    · exact N_pos
    · exact Nat.one_pos

instance twoRd_payload_storable (g : GSem nD τ sig) (r : ℕ) (d : ℕ) :
    BI.Storable (upEmb : UEmb _ 𝕄) ((twoRd m).payload g r d) := by
  show BI.Storable upEmb (payK m g.1.1 (kind g.2) r d)
  unfold payK
  split <;> infer_instance

/-- The schedule's tables at a device's semaphore of a known kind. -/
theorem duties_k (c : Dev nD) {sm : SemLoc sig} {k : CK} (hk : kind sm = k) (r : ℕ) :
    (twoRd m).duties ((c : Thread nD τ), sm) r = dutiesK k r := by
  subst hk; dsimp only [twoRd]; exact if_pos rfl
theorem amount_k (c : Dev nD) {sm : SemLoc sig} {k : CK} (hk : kind sm = k) (r : ℕ) (d : ℕ) :
    (twoRd m).amount ((c : Thread nD τ), sm) r d = amountK k := by
  subst hk; rfl
theorem payload_k (c : Dev nD) {sm : SemLoc sig} {k : CK} (hk : kind sm = k) (r : ℕ) (d : ℕ) :
    (twoRd m).payload ((c : Thread nD τ), sm) r d = payK m c k r d := by
  subst hk; rfl

section Tables
variable (s : Bool) (c : Dev nD)

theorem duties_bar : (twoRd m).duties (barCell c) 0 = Finset.range 2 :=
  (duties_k m c kind_bar 0).trans rfl
theorem duties_send (i : Fin 3) (r : ℕ) (hr : r < 10) : (twoRd m).duties (sendCell s c i) r = {0} :=
  (duties_k m c (kind_snd s i) r).trans (if_pos hr)
theorem duties_recv (i : Fin 3) (r : ℕ) (hr : r < 10) : (twoRd m).duties (recvCell s c i) r = {0} :=
  (duties_k m c (kind_rcv s i) r).trans (if_pos hr)
theorem duties_cred : (twoRd m).duties (credCell s c) 0 = Finset.range 28 :=
  (duties_k m c (kind_crd s) 0).trans rfl

theorem later_bar : ∀ r, 1 ≤ r → (twoRd m).duties (barCell c) r = ∅ := fun r hr =>
  (duties_k m c kind_bar r).trans (if_neg (by omega))
theorem later_send (i : Fin 3) : ∀ r, 10 ≤ r → (twoRd m).duties (sendCell s c i) r = ∅ := fun r hr =>
  (duties_k m c (kind_snd s i) r).trans (if_neg (by omega))
theorem later_recv (i : Fin 3) : ∀ r, 10 ≤ r → (twoRd m).duties (recvCell s c i) r = ∅ := fun r hr =>
  (duties_k m c (kind_rcv s i) r).trans (if_neg (by omega))
theorem later_cred : ∀ r, 1 ≤ r → (twoRd m).duties (credCell s c) r = ∅ := fun r hr =>
  (duties_k m c (kind_crd s) r).trans (if_neg (by omega))

theorem amount_bar (r : ℕ) (d : ℕ) : (twoRd m).amount (barCell c) r d = 1 := amount_k m c kind_bar r d
theorem amount_send (i : Fin 3) (r : ℕ) (d : ℕ) : (twoRd m).amount (sendCell s c i) r d = N := amount_k m c (kind_snd s i) r d
theorem amount_recv (i : Fin 3) (r : ℕ) (d : ℕ) : (twoRd m).amount (recvCell s c i) r d = N := amount_k m c (kind_rcv s i) r d
theorem amount_cred (r : ℕ) (d : ℕ) : (twoRd m).amount (credCell s c) r d = 1 := amount_k m c (kind_crd s) r d

theorem expect_bar : (twoRd m).expect (barCell c) 0 = 2 := by
  unfold Schedule.expect Schedule.amountOf
  rw [duties_bar, Finset.sum_congr rfl fun d _ => amount_bar m c 0 d, Finset.sum_const, Finset.card_range, smul_eq_mul]
theorem expect_send (i : Fin 3) (r : ℕ) (hr : r < 10) : (twoRd m).expect (sendCell s c i) r = N := by
  unfold Schedule.expect Schedule.amountOf; rw [duties_send m s c i r hr, Finset.sum_singleton, amount_send]
theorem expect_recv (i : Fin 3) (r : ℕ) (hr : r < 10) : (twoRd m).expect (recvCell s c i) r = N := by
  unfold Schedule.expect Schedule.amountOf; rw [duties_recv m s c i r hr, Finset.sum_singleton, amount_recv]
theorem expect_cred : (twoRd m).expect (credCell s c) 0 = 28 := by
  unfold Schedule.expect Schedule.amountOf
  rw [duties_cred, Finset.sum_congr rfl fun d _ => amount_cred m s c 0 d, Finset.sum_const, Finset.card_range, smul_eq_mul]

theorem payload_bar (s : Bool) : (twoRd m).payload (barCell c) 0 (num s) = iprop(PS s c 0 ∗ PS s c 1) := by
  rw [payload_k m c kind_bar 0 (num s)]; cases s <;> rfl
theorem payload_send (h : ℕ) (d : ℕ) : (twoRd m).payload (sendCell s c (sl h)) (h / 3) d = sendPay m s c h :=
  (payload_k m c (kind_snd s (sl h)) (h / 3) d).trans
    (congrArg (sendPay m s c) (show 3 * (h / 3) + (sl h).val = h by rw [sl_val]; omega))
theorem payload_recv (h : ℕ) (d : ℕ) : (twoRd m).payload (recvCell s c (sl (h + 1))) (h / 3) d = recvPay m s c h :=
  (payload_k m c (kind_rcv s (sl (h + 1))) (h / 3) d).trans
    (congrArg (recvPay m s c) (show 3 * (h / 3) + ((sl (h + 1)).val + 2) % 3 = h by rw [sl_val]; omega))
theorem payload_cred (d : ℕ) : (twoRd m).payload (credCell s c) 0 d = reached EQ (iq s c) (d + 1) := payload_k m c (kind_crd s) 0 d

theorem num_mem (s : Bool) : num s ∈ Finset.range 2 := by cases s <;> decide
theorem rest_bar : bigSep ((twoRd m).duties (barCell c) 0 \ ∅) (fun d => (twoRd m).payload (barCell c) 0 d)
    = iprop((PS false c 0 ∗ PS false c 1) ∗ PS true c 0 ∗ PS true c 1) := by
  rw [Finset.sdiff_empty, duties_bar, bigSep_eq_bigSepL_of_eq [num false, num true] (by decide) (by decide), bigSepL_cons_cons,
    bigSepL_singleton, payload_bar m c false, payload_bar m c true]
  rfl
theorem rest_send (h : ℕ) (hh : h < 30) : bigSep ((twoRd m).duties (sendCell s c (sl h)) (h / 3) \ ∅)
    (fun d => (twoRd m).payload (sendCell s c (sl h)) (h / 3) d) = sendPay m s c h := by
  rw [Finset.sdiff_empty, duties_send m s c _ _ (by omega), bigSep_singleton, payload_send]
theorem rest_recv (h : ℕ) (hh : h < 30) : bigSep ((twoRd m).duties (recvCell s c (sl (h + 1))) (h / 3) \ ∅)
    (fun d => (twoRd m).payload (recvCell s c (sl (h + 1))) (h / 3) d) = recvPay m s c h := by
  rw [Finset.sdiff_empty, duties_recv m s c _ _ (by omega), bigSep_singleton, payload_recv]

end Tables

end Schedule

end Cert.KernelIdeal.Two

end
-- ==== Proof.Owe.lean ====
/-
  What a device owes. From hop `h` on it owes its neighbours the arrivals of the sends it has yet to start and the
  credits it has yet to signal; each is counted at the number of its hop, and the levels follow the hops: an arrival of
  hop `h` lies at `2h + 2`, a credit of hop `h` at `2h + 3`, the handshake below both. A wait is allowed where all that
  the device still owes lies above it.
-/
module

public import proofs.«01_k».proof.Proof.Base
public import Mathlib.Algebra.BigOperators.Intervals
public import Mathlib.Tactic.Abel

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev Tal : Type := CellTallies nD τ sig ℕ

/-- The arrival that hop `i` of ring `s` on device `c` owes the neighbour, and the credit that it owes the other one. -/
def rT (s : Bool) (c : Dev nD) (i : ℕ) : Tal := tallyAt (recvCell s (peer s c) (sl (i + 1))) i N
def cT (s : Bool) (c : Dev nD) (i : ℕ) : Tal := tallyAt (credCell s (peer (!s) c)) i 1

/-- What device `c` owes with the sends from hop `r s` on and the credits from hop `k s` on to come, for each ring `s`. -/
def ow (c : Dev nD) (r k : Bool → ℕ) : Tal :=
  ((∑ i ∈ Finset.Ico (r false) 30, rT false c i) + ∑ i ∈ Finset.Ico (r true) 30, rT true c i)
    + ((∑ i ∈ Finset.Ico (k false) 28, cT false c i) + ∑ i ∈ Finset.Ico (k true) 28, cT true c i)

/-- A counter of one ring raised by one. -/
def up (s : Bool) (r : Bool → ℕ) : Bool → ℕ := fun s' => if s' = s then r s' + 1 else r s'

theorem up_both (h : ℕ) : up true (up false fun _ => h) = fun _ => h + 1 := by
  funext s; cases s <;> rfl
theorem up_both' (r : Bool → ℕ) : up true (up false r) = fun s => r s + 1 := by
  funext s; cases s <;> rfl

theorem ow_send (c : Dev nD) (r k : Bool → ℕ) (s : Bool) (h : ℕ) (hr : r s = h) (hh : h < 30) :
    ow c r k = ow c (up s r) k + rT s c h := by
  subst hr
  unfold ow
  cases s
  · rw [Finset.sum_eq_sum_Ico_succ_bot hh (rT false c)]
    show _ = ((∑ i ∈ Finset.Ico (r false + 1) 30, rT false c i) + ∑ i ∈ Finset.Ico (r true) 30, rT true c i) + _ + _
    abel
  · rw [Finset.sum_eq_sum_Ico_succ_bot hh (rT true c)]
    show _ = ((∑ i ∈ Finset.Ico (r false) 30, rT false c i) + ∑ i ∈ Finset.Ico (r true + 1) 30, rT true c i) + _ + _
    abel
theorem ow_credit (c : Dev nD) (r k : Bool → ℕ) (s : Bool) (h : ℕ) (hr : k s = h) (hh : h < 28) :
    ow c r k = ow c r (up s k) + cT s c h := by
  subst hr
  unfold ow
  cases s
  · rw [Finset.sum_eq_sum_Ico_succ_bot hh (cT false c)]
    show _ = _ + ((∑ i ∈ Finset.Ico (k false + 1) 28, cT false c i) + ∑ i ∈ Finset.Ico (k true) 28, cT true c i) + _
    abel
  · rw [Finset.sum_eq_sum_Ico_succ_bot hh (cT true c)]
    show _ = _ + ((∑ i ∈ Finset.Ico (k false) 28, cT false c i) + ∑ i ∈ Finset.Ico (k true + 1) 28, cT true c i) + _
    abel

/-- Nothing is owed after the last hop. -/
theorem ow_end (c : Dev nD) (r k : Bool → ℕ) (hr : ∀ s, 30 ≤ r s) (hk : ∀ s, 28 ≤ k s) : ow c r k = 0 := by
  unfold ow
  rw [Finset.Ico_eq_empty_of_le (hr false), Finset.Ico_eq_empty_of_le (hr true), Finset.Ico_eq_empty_of_le (hk false),
    Finset.Ico_eq_empty_of_le (hk true)]
  simp

/-- With the handshake still to signal. -/
def O₁ (c : Dev nD) : Tal := ow c (fun _ => 0) (fun _ => 0) + tallyAt (barCell (peer false c)) 0 1
def O₀ (c : Dev nD) : Tal := O₁ c + tallyAt (barCell (peer true c)) 0 1

/-! ## The levels -/

def L (g : GSem nD τ sig) : Finset ℕ := if g.1.2 = .tc then Finset.range 30 else ∅
def lvK : CK → ℕ → ℕ
  | .bar, _ => 1
  | .rcv _ _, i => 2 * i + 2
  | .crd _, i => 2 * i + 3
  | _, _ => 0
def lv (g : GSem nD τ sig) (i : ℕ) : ℕ := lvK (kind g.2) i

theorem L_of_ne (g : GSem nD τ sig) (h : g.1.2 ≠ .tc) : L g = ∅ := if_neg h
theorem L_tc (c : Dev nD) (sm : SemLoc sig) : L ((c : Thread nD τ), sm) = Finset.range 30 := if_pos rfl

theorem lv_k (c : Dev nD) {sm : SemLoc sig} {k : CK} (hk : kind sm = k) (i : ℕ) : lv ((c : Thread nD τ), sm) i = lvK k i := by
  subst hk; rfl

/-- Every dues tally sits at an index of the TensorCore's and above the bound. -/
def Above (b : ℕ) (O : Tal) : Prop := ∀ g u, 0 < O g u → u ∈ L g ∧ b < lv g u

theorem Above.zero (b : ℕ) : Above b 0 := fun g u h => absurd h (by simp)
theorem Above.add {b : ℕ} {O O' : Tal} (h : Above b O) (h' : Above b O') : Above b (O + O') := fun g u hg => by
  rw [Pi.add_apply, Finsupp.add_apply] at hg
  rcases Nat.eq_zero_or_pos (O g u) with h0 | h0
  · exact h' g u (by omega)
  · exact h g u h0
theorem Above.sum {b : ℕ} (s : Finset ℕ) (f : ℕ → Tal) (h : ∀ i ∈ s, Above b (f i)) : Above b (∑ i ∈ s, f i) := by
  induction s using Finset.induction_on with
  | empty => rw [Finset.sum_empty]; exact Above.zero b
  | insert a s ha ih =>
    rw [Finset.sum_insert ha]
    exact (h a (Finset.mem_insert_self _ _)).add (ih fun i hi => h i (Finset.mem_insert_of_mem hi))
theorem Above.tally {b : ℕ} (c : Dev nD) (sm : SemLoc sig) (i n : ℕ) (hi : i < 30) (hb : b < lv ((c : Thread nD τ), sm) i) :
    Above b (tallyAt ((c : Thread nD τ), sm) i n) := fun g u hg => by
  rw [tallyAt_apply] at hg
  by_cases h : g = ((c : Thread nD τ), sm) ∧ u = i
  · rw [h.1, h.2, L_tc]; exact ⟨Finset.mem_range.mpr hi, hb⟩
  · rw [if_neg h] at hg; exact absurd hg (Nat.lt_irrefl 0)

theorem above_rT {b : ℕ} (s : Bool) (c : Dev nD) (i : ℕ) (hi : i < 30) (hb : b < 2 * i + 2) : Above b (rT s c i) :=
  Above.tally _ _ _ _ hi (by rw [lv_k _ (kind_rcv s _)]; exact hb)
theorem above_cT {b : ℕ} (s : Bool) (c : Dev nD) (i : ℕ) (hi : i < 28) (hb : b < 2 * i + 3) : Above b (cT s c i) :=
  Above.tally _ _ _ _ (by omega) (by rw [lv_k _ (kind_crd s)]; exact hb)

theorem above_ow {b : ℕ} (c : Dev nD) (r k : Bool → ℕ) (hr : ∀ s, b < 2 * r s + 2) (hk : ∀ s, b < 2 * k s + 3) :
    Above b (ow c r k) := by
  have h1 (s : Bool) : Above b (∑ i ∈ Finset.Ico (r s) 30, rT s c i) := Above.sum _ _ fun i hi => by
    have := Finset.mem_Ico.mp hi; have := hr s; exact above_rT s c i (by omega) (by omega)
  have h2 (s : Bool) : Above b (∑ i ∈ Finset.Ico (k s) 28, cT s c i) := Above.sum _ _ fun i hi => by
    have := Finset.mem_Ico.mp hi; have := hk s; exact above_cT s c i (by omega) (by omega)
  exact ((h1 false).add (h1 true)).add ((h2 false).add (h2 true))

theorem above_O₀ (c : Dev nD) : Above 0 (O₀ c) := by
  unfold O₀ O₁
  refine ((above_ow c _ _ (fun _ => by omega) (fun _ => by omega)).add ?_).add ?_ <;>
    exact Above.tally _ _ _ _ (by omega) (by rw [lv_k _ kind_bar]; decide)

/-- The level of every semaphore at every index. -/
@[irreducible] def levs : sProp 𝕄 := levAts L lv
instance levs_persistent : BI.Persistent (levs (F := F)) := by unfold levs; infer_instance

/-- A wait at index `i` is allowed where everything owed lies above it. -/
theorem mayWait (c : Dev nD) {sm : SemLoc sig} {k : CK} (hk : kind sm = k) (i : ℕ) (hi : i < 30) {O : Tal} (hO : Above (lvK k i) O) :
    levs (F := F) ⊢ MayWait (c : Thread nD τ) sm i O := by
  unfold levs
  exact
  MayOwe.of_cut (L := L) (lev := lv) (lvK k i)
    (fun p hp => by rw [Finset.mem_singleton.mp hp, L_tc]; exact Finset.mem_range.mpr hi)
    (fun g u hg => (hO g u hg).1)
    (fun p hp => by rw [Finset.mem_singleton.mp hp]; exact le_of_eq (lv_k c hk i))
    (fun g u hg => (hO g u hg).2)

end Cert.KernelIdeal.Two

end
-- ==== Proof.Steps.lean ====
/-
  The steps of a hop that talk to a neighbour, each as a triple on what it uses: the handshake, the credits, the send and
  the two waits for it. A ring's resources are kept under cursors that say how far the ring has come.
-/
module

public import proofs.«01_k».proof.Proof.Owe
public import Idealize.SL.BI.BigOpNat
public import Idealize.ShloMosaic.Lib.StableHlo.CollectiveRules

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

/-! ## The records -/

/-- The semaphores of a device that follow the schedule. -/
abbrev CIx : Type := Unit ⊕ ((Bool × Fin 3) ⊕ ((Bool × Fin 3) ⊕ Bool))
def csem : CIx → SemLoc sig
  | .inl _ => .reg barS
  | .inr (.inl p) => .dma (sendS p.1 p.2)
  | .inr (.inr (.inl p)) => .dma (recvS p.1 p.2)
  | .inr (.inr (.inr s)) => .reg (credS s)
abbrev kcell (p : Dev nD × CIx) : GSem nD τ sig := ((p.1 : Thread nD τ), csem p.2)

variable (m : (ℓ : Loc nD τ sig) → Buf (Elt F) ℓ)

/-- What every device knows: the semaphores' invariants under the names `K`, that each has begun, where the credits'
    slots wait, and the levels. -/
def recs (K : Dev nD × CIx → ℕ) (KE : Bool × Dev nD → ℕ) : sProp 𝕄 :=
  iprop((bigSep Finset.univ fun p : Dev nD × CIx => cellInv ER (twoRd m) (K p) (kcell p))
    ∗ (bigSep Finset.univ fun p : Dev nD × CIx => reached ER (kcell p) 0)
    ∗ (bigSep Finset.univ fun q : Bool × Dev nD => inv (KE q) (escB q.1 q.2))
    ∗ levs)

instance recs_persistent (K : Dev nD × CIx → ℕ) (KE : Bool × Dev nD → ℕ) : BI.Persistent (recs m K KE) := by
  unfold recs; infer_instance

variable (K : Dev nD × CIx → ℕ) (KE : Bool × Dev nD → ℕ)

theorem rec_inv (p : Dev nD × CIx) : recs m K KE ⊢ cellInv ER (twoRd m) (K p) (kcell p) := by
  unfold recs; exact sep_elim_left.trans (bigSep_elim (Finset.mem_univ p))
theorem rec_bar (c : Dev nD) : recs m K KE ⊢ cellInv ER (twoRd m) (K (c, .inl ())) (barCell c) := rec_inv m K KE (c, .inl ())
theorem rec_send (s : Bool) (c : Dev nD) (i : Fin 3) :
    recs m K KE ⊢ cellInv ER (twoRd m) (K (c, .inr (.inl (s, i)))) (sendCell s c i) := rec_inv m K KE (c, .inr (.inl (s, i)))
theorem rec_recv (s : Bool) (c : Dev nD) (i : Fin 3) :
    recs m K KE ⊢ cellInv ER (twoRd m) (K (c, .inr (.inr (.inl (s, i))))) (recvCell s c i) :=
  rec_inv m K KE (c, .inr (.inr (.inl (s, i))))
theorem rec_cred (s : Bool) (c : Dev nD) :
    recs m K KE ⊢ cellInv ER (twoRd m) (K (c, .inr (.inr (.inr s)))) (credCell s c) := rec_inv m K KE (c, .inr (.inr (.inr s)))
theorem rec_reached (p : Dev nD × CIx) : recs m K KE ⊢ reached ER (kcell p) 0 := by
  unfold recs; exact sep_elim_right.trans (sep_elim_left.trans (bigSep_elim (Finset.mem_univ p)))
theorem rec_esc (s : Bool) (c : Dev nD) : recs m K KE ⊢ inv (KE (s, c)) (escB s c) := by
  unfold recs; exact sep_elim_right.trans (sep_elim_right.trans (sep_elim_left.trans (bigSep_elim (Finset.mem_univ (s, c)))))
theorem rec_lev : recs m K KE ⊢ levs := by
  unfold recs; iintro ⟨-, -, -, H⟩; iexact H

theorem rec_wait (c : Dev nD) {sm : SemLoc sig} {k : CK} (hk : kind sm = k) (i : ℕ) (hi : i < 30) {O : Tal} (hO : Above (lvK k i) O) :
    recs m K KE ⊢ MayWait (c : Thread nD τ) sm i O := by
  exact (rec_lev m K KE).trans (mayWait (F := F) c hk i hi hO)

/-! ## Triples -/

/-- From the records and `P`, the step `p` ends in `Q`. -/
def Tr (c : Dev nD) (P : sProp 𝕄) (p : PM F PUnit) (Q : sProp 𝕄) : Prop :=
  ∀ Kt : PUnit → sProp 𝕄, iprop(recs m K KE ∗ P ∗ (Q -∗ Kt ⟨⟩)) ⊢ WP c p Kt

variable {m K KE}

theorem Tr.nop {c : Dev nD} {P Q : sProp 𝕄} (h : P ⊢ Q) : Tr m K KE c P (pure ⟨⟩) Q := fun Kt => by
  unfold WP; rw [Prog.pure_eq_ret, wp_ret]
  iintro ⟨-, HP, Hk⟩
  imodintro
  iapply Hk
  iapply h $$ HP
theorem Tr.seq {c : Dev nD} {P Q R : sProp 𝕄} {p q : PM F PUnit} (hp : Tr m K KE c P p Q) (hq : Tr m K KE c Q q R) :
    Tr m K KE c P (p >>= fun _ => q) R := fun Kt => by
  unfold WP; rw [wp_bind]
  iintro ⟨#HR, HP, Hk⟩
  iapply (hp _)
  isplitr; · iexact HR
  isplitl [HP]; · iexact HP
  iintro HQ
  iapply (hq Kt)
  isplitr; · iexact HR
  isplitl [HQ] <;> iassumption
theorem Tr.conseq {c : Dev nD} {P P' Q Q' : sProp 𝕄} {p : PM F PUnit} (hp : Tr m K KE c P p Q) (h : P' ⊢ P) (h' : Q ⊢ Q') :
    Tr m K KE c P' p Q' := fun Kt => by
  iintro ⟨#HR, HP, Hk⟩
  iapply (hp Kt)
  isplitr; · iexact HR
  isplitl [HP]; · iapply h $$ HP
  iintro HQ
  iapply Hk
  iapply h' $$ HQ
theorem Tr.frame {c : Dev nD} {P Q : sProp 𝕄} {p : PM F PUnit} (R : sProp 𝕄) (hp : Tr m K KE c P p Q) :
    Tr m K KE c iprop(P ∗ R) p iprop(Q ∗ R) := fun Kt => by
  iintro ⟨#HR, ⟨HP, HF⟩, Hk⟩
  iapply (hp Kt)
  isplitr; · iexact HR
  isplitl [HP]; · iexact HP
  iintro HQ
  iapply Hk
  isplitl [HQ] <;> iassumption
theorem Tr.when {c : Dev nD} {P Q : sProp 𝕄} {p : PM F PUnit} {b : Prop} [Decidable b] (h : b → Tr m K KE c P p Q)
    (h' : ¬ b → (P ⊢ Q)) : Tr m K KE c P (whenP b p) Q := by
  unfold whenP
  split
  next hb => exact h hb
  next hb => exact Tr.nop (h' hb)

/-- Both rings' share of something. -/
abbrev both (A : Bool → sProp 𝕄) : sProp 𝕄 := iprop(A false ∗ A true)

/-- A step done by one ring and then by the other, on a state they share. -/
theorem Tr.pair {c : Dev nD} {A B : Bool → sProp 𝕄} {Z₀ Z₁ Z₂ : sProp 𝕄} {p : Bool → PM F PUnit}
    (h₀ : Tr m K KE c iprop(A false ∗ Z₀) (p false) iprop(B false ∗ Z₁))
    (h₁ : Tr m K KE c iprop(A true ∗ Z₁) (p true) iprop(B true ∗ Z₂)) :
    Tr m K KE c iprop(both A ∗ Z₀) (p false >>= fun _ => p true) iprop(both B ∗ Z₂) :=
  (((Tr.frame (A true) h₀).conseq (P' := iprop(both A ∗ Z₀)) (Q' := iprop((A true ∗ Z₁) ∗ B false))
      (by iintro ⟨⟨H1, H2⟩, H3⟩; iframe) (by iintro ⟨⟨H1, H2⟩, H3⟩; iframe)).seq
    (Tr.frame (B false) h₁)).conseq (by iintro H; iexact H) (by iintro ⟨⟨H1, H2⟩, H3⟩; unfold both; iframe)

variable (m K KE)

/-- What a device owes, whatever waits it has recorded. -/
def Ow (c : Dev nD) (O : Tal) : sProp 𝕄 := iprop(∃ W, owes (c : Thread nD τ) O W)

/-! ## The credits -/

section Credits
variable (s : Bool) (c : Dev nD)

/-- The next credit is signalled: its slot is put aside, and the count of credits signalled goes up. -/
theorem deposit (κ n : ℕ) : iprop(inv κ (escB (F := F) s c) ∗ atPos EQ (iq s c) n ∅ 0 ∗ PS s c (n + 2))
    ⊢ |={Set.univ}=> iprop(atPos EQ (iq s c) (n + 1) ∅ 0 ∗ reached EQ (iq s c) (n + 1)) := by
  iintro ⟨Hi, Hat, HP⟩
  imod (inv_acc (Set.mem_univ κ)) $$ Hi with ⟨Hb, Hcl⟩
  unfold escB
  icases Hb with ⟨%n', %k, %hk, HA, HT, HS⟩
  ihave %hag := roundAuth_atPos_agree (E := EQ (F := F)) $$ [HA Hat]
  · isplitl [HA] <;> iassumption
  obtain ⟨rfl, -, -⟩ := hag
  imod (roundAuth_atPos_move (EQ (F := F)) (n + 1) ∅ 0 (Nat.le_succ n)) $$ [HA Hat] with ⟨HA, Hat⟩
  · isplitl [HA] <;> iassumption
  imod (roundAuth_witness (E := EQ (F := F))) $$ HA with ⟨HA, #Hr⟩
  imod Hcl $$ [HA HT HS HP]
  · iexists (n + 1); iexists k
    isplitr; · ipureintro; omega
    isplitl [HA]; · iexact HA
    isplitl [HT]; · iexact HT
    rw [bigSep_Ico_succ_top hk]
    isplitl [HP] <;> iassumption
  imodintro
  isplitl; · iexact Hat
  iexact Hr

/-- A credit known to be signalled is taken, with its slot. -/
theorem takeCredit (κ k : ℕ) : iprop(inv κ (escB (F := F) s c) ∗ atPos EQ (tq s c) k ∅ 0 ∗ reached EQ (iq s c) (k + 1))
    ⊢ |={Set.univ}=> iprop(atPos EQ (tq s c) (k + 1) ∅ 0 ∗ PS s c (k + 2)) := by
  iintro ⟨Hi, Hat, #Hr⟩
  imod (inv_acc (Set.mem_univ κ)) $$ Hi with ⟨Hb, Hcl⟩
  unfold escB
  icases Hb with ⟨%n, %k', %hk, HA, HT, HS⟩
  ihave %hag := roundAuth_atPos_agree (E := EQ (F := F)) $$ [HT Hat]
  · isplitl [HT] <;> iassumption
  obtain ⟨rfl, -, -⟩ := hag
  ihave %hle := roundAuth_reached_le (E := EQ (F := F)) $$ [HA]
  · isplitl [HA]; · iexact HA
    iexact Hr
  imod (roundAuth_atPos_move (EQ (F := F)) (k + 1) ∅ 0 (Nat.le_succ k)) $$ [HT Hat] with ⟨HT, Hat⟩
  · isplitl [HT] <;> iassumption
  ihave HS := (Entails.of_eq (bigSep_Ico_succ_bot (show k < n by omega) fun i => PS s c (i + 2))) $$ HS
  icases HS with ⟨HP, HS⟩
  imod Hcl $$ [HA HT HS]
  · iexists n; iexists (k + 1)
    isplitr; · ipureintro; omega
    isplitl [HA]; · iexact HA
    isplitl [HT] <;> iassumption
  imodintro
  isplitl [Hat] <;> iassumption

end Credits

/-! ## What a ring has at every hop -/

section Cursors
variable (s : Bool) (c : Dev nD)

/-- The position on the sending semaphore of hop `n`, and on the receiving one. -/
def SPos (n : ℕ) : sProp 𝕄 := iprop(atPos ER (sendCell s c (sl n)) (n / 3) ∅ 0 ∗ reached ER (sendCell s c (sl n)) (n / 3))
def RPos (n : ℕ) : sProp 𝕄 :=
  iprop(atPos ER (recvCell s c (sl (n + 1))) (n / 3) ∅ 0 ∗ reached ER (recvCell s c (sl (n + 1))) (n / 3))

/-- The sending semaphores with the sends of hops below `n` waited for. -/
def SA (n : ℕ) : sProp 𝕄 := iprop(SPos s c n ∗ SPos s c (n + 1) ∗ SPos s c (n + 2))
/-- The receiving semaphores with the arrivals of hops below `n` waited for, and the right to wait for the rest. -/
def RA (n : ℕ) : sProp 𝕄 :=
  iprop((RPos s c n ∗ RPos s c (n + 1) ∗ RPos s c (n + 2))
    ∗ bigSep (Finset.Ico n 30) fun i => cred (tallyAt (recvCell s c (sl (i + 1))) i N))
/-- The right to pay the sends from hop `n` on. -/
def TK (n : ℕ) : sProp 𝕄 :=
  bigSep (Finset.Ico n 30) fun i => iprop(dutyTok ER (sendCell s c (sl i)) (i / 3) 0
    ∗ dutyTok ER (recvCell s (peer s c) (sl (i + 1))) (i / 3) 0)
/-- The right to signal the credits from hop `n` on, and the count of those signalled. -/
def CI (n : ℕ) : sProp 𝕄 :=
  iprop((bigSep (Finset.Ico n 28) fun i => dutyTok ER (credCell s (peer (!s) c)) 0 i)
    ∗ atPos EQ (iq s (peer (!s) c)) (min n 28) ∅ 0)
/-- The credits with `k` of them waited for. -/
def CW (k : ℕ) : sProp 𝕄 :=
  iprop((bigSep (Finset.Ico k 28) fun i => cred (tallyAt (credCell s c) i 1))
    ∗ ∃ T, ⌜T ⊆ Finset.range 28 ∧ k ≤ T.card⌝ ∗ atPos ER (credCell s c) 0 T k
      ∗ (bigSep T fun j => reached EQ (iq s c) (j + 1)) ∗ atPos EQ (tq s c) k ∅ 0)
/-- The neighbour's slots that are free from the handshake on. -/
def FP (n : ℕ) : sProp 𝕄 := bigSep (Finset.Ico n 2) fun i => PS s c i
/-- The half of slot `h % 3` that a send lends, and the half it leaves. -/
def slL (h : ℕ) : sProp 𝕄 := owns (c : Thread nD τ) (slotM s (sl h)) fullShare.left (acc m s c h)
def slR (h : ℕ) : sProp 𝕄 := owns (c : Thread nD τ) (slotM s (sl h)) fullShare.right (acc m s c h)
/-- Slots no neighbour sends to any more. -/
def LO (h : ℕ) : sProp 𝕄 := bigSep (Finset.Ico 28 h) fun n => anyOf c (slotM s (sl n))

theorem slLR (h : ℕ) : iprop(slL m s c h ∗ slR m s c h) ⊣⊢ owns (c : Thread nD τ) (slotM s (sl h)) fullShare (acc m s c h) := by
  unfold slL slR
  exact (owns_share (Val := Elt F) (c : Thread nD τ) (slotM s (sl h)) (Part.eq_some_iff.mp (PosShare.left_op_right fullShare)) (acc m s c h)).symm

end Cursors

/-! ## The steps -/

section Steps
variable {m K KE}
variable (s : Bool) (c : Dev nD)

/-- A slot's credit comes before hop `h + 2`. -/
theorem tr_creditWait (h : ℕ) (hh : h < 28) {O : Tal} (hO : Above (2 * h + 3) O) :
    Tr m K KE c iprop(CW s c h ∗ Ow c O) (creditWait s) iprop((CW s c (h + 1) ∗ PS s c (h + 2)) ∗ Ow c O) := fun Kt => by
  unfold WP creditWait semWaitWord CW Ow
  iintro ⟨#HR, ⟨⟨Hcr, %T, %hT, Hat, #HT, Htq⟩, %W, HO⟩, Hk⟩
  ihave Hcr := (Entails.of_eq (bigSep_Ico_succ_bot hh fun i => cred (tallyAt (credCell s c) i 1))) $$ Hcr
  icases Hcr with ⟨Hc, Hcr⟩
  iapply (Rounds.wp_wait 𝒱₀ ER (twoRd m) (c : Thread nD τ) none (κ := K (c, .inr (.inr (.inr s))))
      (wpE_semWait_eq 𝒱₀ (c : Thread nD τ) none Set.univ) (Set.mem_univ _) (cr := Finsupp.single h 1) (O := O) (W := W)
      {(SemLoc.reg (credS s), h)} (R := 0) (m := h) (T := T) (by rw [Util.total_single]; rfl) (image_single_subset _ h 1)) $$ [Hc HO Hat]
  · isplitr; · iapply (rec_cred m K KE s c); iexact HR
    isplitl [Hc]; · iexact Hc
    isplitl [HO]; · iexact HO
    isplitr
    · iapply (rec_wait m K KE c (kind_crd s) h (by omega) hO); iexact HR
    iexact Hat
  iintro %S ⟨%hS, HO, Hat, HS⟩
  obtain ⟨h1, h2, h3⟩ := hS
  rw [duties_cred] at h2 h3
  rw [expect_cred] at h3
  have hcard : (Finset.range 28 \ S).card = 28 - S.card := by
    rw [Finset.card_sdiff_of_subset h2, Finset.card_range]
  have hle : S.card ≤ 28 := (Finset.card_le_card h2).trans (by rw [Finset.card_range])
  have hge : h + 1 ≤ S.card := by
    have h3' : h + 1 + (Finset.range 28 \ S).card ≤ 28 := h3
    omega
  obtain ⟨j, hj, hhj⟩ : ∃ j ∈ S, h ≤ j := by
    by_contra hn
    push Not at hn
    have : S ⊆ Finset.range h := fun j hj => Finset.mem_range.mpr (hn j hj)
    have := Finset.card_le_card this
    rw [Finset.card_range] at this
    omega
  ihave HS' := (Entails.of_eq (bigSep_congr fun d _ => payload_cred m s c d)) $$ HS
  icases HS' with #HS'
  ihave #HSS := (show iprop((bigSep T fun j => (reached EQ (iq s c) (j + 1) : sProp 𝕄)) ∗ bigSep (S \ T) fun j => reached EQ (iq s c) (j + 1))
      ⊢ bigSep S fun j => reached EQ (iq s c) (j + 1) from Entails.of_eq (by
        rw [← Finset.union_sdiff_of_subset h1, bigSep_union Finset.disjoint_sdiff, Finset.union_sdiff_of_subset h1]; rfl)) $$ [HT HS']
  · isplitl <;> iassumption
  imod (takeCredit s c (KE (s, c)) h) $$ [Htq] with ⟨Htq, HP⟩
  · isplitr; · iapply (rec_esc m K KE s c); iexact HR
    isplitl; · iexact Htq
    iapply (show (bigSep S fun j => (reached EQ (iq s c) (j + 1) : sProp 𝕄)) ⊢ reached EQ (iq s c) (h + 1) from
      (bigSep_elim hj).trans (reached_mono (EQ (F := F)) (Nat.add_le_add_right hhj 1)))
    iexact HSS
  rw [wp_ret]; imodintro
  iapply Hk
  isplitr [HO]
  · isplitr [HP]
    · isplitl [Hcr]; · iexact Hcr
      iexists S
      isplitr; · ipureintro; exact ⟨h2, hge⟩
      isplitl [Hat]; · iexact Hat
      isplitr; · iexact HSS
      iexact Htq
    iexact HP
  iexists _; iexact HO

/-- What a send writes is what the neighbour waits for. -/
theorem send_lands (h : ℕ) (fs : Buf (Elt F) ((slotM s (sl h)).view.loc (c : Thread nD τ)))
    (hfs : (slotM s (sl h)).view.read (Elt F) fs = acc m s c h)
    (fd : Buf (Elt F) ((slotM s (sl (h + 1))).view.loc (peer s c : Thread nD τ))) :
    ((slotM s (sl (h + 1))).view.loc (peer s c : Thread nD τ) ↦[(slotM s (sl (h + 1))).view.set]{fullShare}
        ((slotM s (sl (h + 1))).view.write (Elt F) fd ((slotM s (sl h)).view.read (Elt F) fs) Finset.univ))
      ⊢ recvPay m s (peer s c) h := by
  unfold recvPay owns
  rw [peer_peer]
  iintro H
  iexists ((slotM s (sl (h + 1))).view.write (Elt F) fd ((slotM s (sl h)).view.read (Elt F) fs) Finset.univ)
  isplitr
  · ipureintro; exact (View.read_write_univ _ _).trans hfs
  iexact H

/-- The send of hop `h`. -/
theorem tr_send (h : ℕ) (hh : h < 30) (O : Tal) :
    Tr m K KE c iprop((slL m s c h ∗ PS s c h ∗ SA s c h ∗ TK s c h) ∗ Ow c (O + rT s c h)) (send s c h)
      iprop((cred (tallyAt (sendCell s c (sl h)) 0 N) ∗ SA s c h ∗ TK s c (h + 1)) ∗ Ow c O) := fun Kt => by
  unfold WP send TK Ow SA SPos PS slL anyOf owns
  simp only [Prog.lift]
  iintro ⟨#HR, ⟨⟨⟨%fs, %hfs, Hs⟩, ⟨⟨%X, %fd, -, Hd⟩, #Hrd⟩, ⟨⟨Hat, #Hrs⟩, HSA⟩, Htk⟩, %W, HO⟩, Hk⟩
  ihave Htk := (Entails.of_eq (bigSep_Ico_succ_bot hh fun i => iprop(dutyTok ER (sendCell s c (sl i)) (i / 3) 0
    ∗ dutyTok ER (recvCell s (peer s c) (sl (i + 1))) (i / 3) 0))) $$ Htk
  icases Htk with ⟨⟨Ht1, Ht2⟩, Htk⟩
  iapply (Rounds.wp_send_pointsTo 𝒱₀ ER (twoRd m) (c : Thread nD τ) none (c' := (peer s c : Thread nD τ))
    (src := slotM s (sl h)) (dst := slotM s (sl (h + 1))) (sS := .dma (sendS s (sl h))) (sem := .dma (recvS s (sl (h + 1))))
    (κ₁ := K (c, .inr (.inl (s, sl h)))) (κ₂ := K (peer s c, .inr (.inr (.inl (s, sl (h + 1))))))
    (q := fullShare.left) (fs := fs) (r₁ := h / 3) (r₂ := h / 3) (d₁ := 0) (d₂ := 0) (fd := fd)
    (by rw [duties_send m s c _ _ (by omega)]; exact Finset.mem_singleton_self _)
    (by rw [duties_recv m s (peer s c) _ _ (by omega)]; exact Finset.mem_singleton_self _)
    h 0 N (N_slot s (sl (h + 1))) (amount_send m s c _ _ _) (amount_recv m s (peer s c) _ _ _) O rfl (W := W)
    (by rw [payload_send]; unfold sendPay owns; iintro H; iexists fs; isplitr; · (ipureintro; exact hfs)
        iexact H)
    (by rw [payload_recv]; exact send_lands s c h fs hfs fd)) $$ [Hs Hd HO Ht1 Ht2]
  · isplitr; · iapply (rec_send m K KE s c (sl h)); iexact HR
    isplitr; · iapply (rec_recv m K KE s (peer s c) (sl (h + 1))); iexact HR
    isplitl [Hs]; · iexact Hs
    isplitl [Hd]; · iexact Hd
    isplitl [HO]; · iexact HO
    isplitl [Ht1]; · iexact Ht1
    isplitr; · iexact Hrs
    isplitl [Ht2]; · iexact Ht2
    iexact Hrd
  iintro ⟨Hc, HO⟩
  rw [wp_ret]; imodintro
  iapply Hk
  isplitr [HO]
  · isplitl [Hc]; · iexact Hc
    isplitr [Htk]
    · isplitl [Hat]
      · isplitl; · iexact Hat
        iexact Hrs
      iexact HSA
    iexact Htk
  iexists _; iexact HO

theorem div_next (h : ℕ) : (h + 3) / 3 = h / 3 + 1 := by omega

theorem SPos_next (h : ℕ) : SPos (F := F) s c (h + 3)
    = iprop(atPos ER (sendCell s c (sl h)) (h / 3 + 1) ∅ 0 ∗ reached ER (sendCell s c (sl h)) (h / 3 + 1)) := by
  unfold SPos; rw [sl_add3, div_next]
theorem SPos_at (n : ℕ) : SPos (F := F) s c n ⊢ atPos ER (sendCell s c (sl n)) (n / 3) ∅ 0 := by unfold SPos; exact sep_elim_left
theorem RPos_at (n : ℕ) : RPos (F := F) s c n ⊢ atPos ER (recvCell s c (sl (n + 1))) (n / 3) ∅ 0 := by unfold RPos; exact sep_elim_left
theorem RPos_next (h : ℕ) : RPos (F := F) s c (h + 3)
    = iprop(atPos ER (recvCell s c (sl (h + 1))) (h / 3 + 1) ∅ 0 ∗ reached ER (recvCell s c (sl (h + 1))) (h / 3 + 1)) := by
  unfold RPos; rw [show h + 3 + 1 = (h + 1) + 3 from rfl, sl_add3, div_next]

/-- The wait for the send of hop `h`: the half of the slot comes back. -/
theorem tr_sendWait (h : ℕ) (hh : h < 30) {O : Tal} (hO : Above 0 O) :
    Tr m K KE c iprop((cred (tallyAt (sendCell s c (sl h)) 0 N) ∗ SA s c h) ∗ Ow c O) (sendWait s h)
      iprop((slL m s c h ∗ SA s c (h + 1)) ∗ Ow c O) := fun Kt => by
  unfold WP sendWait Ow
  simp only [Prog.lift]
  iintro ⟨#HR, ⟨⟨Hc, HSA⟩, %W, HO⟩, Hk⟩
  unfold SA
  icases HSA with ⟨H0, H1, H2⟩
  ihave Hat := (SPos_at s c h) $$ H0
  iapply (Rounds.wp_wait_rest_token 𝒱₀ ER (twoRd m) (c : Thread nD τ) none (κ := K (c, .inr (.inl (s, sl h))))
      (wpE_waitDma2_eq 𝒱₀ (c : Thread nD τ) none Set.univ) (Set.mem_univ _) 0 (O := O) (W := W) (R := h / 3) (m := 0) (T := ∅)
      (by rw [Nat.zero_add, expect_send m s c _ _ (by omega)]; exact N_slot s (sl h))) $$ [Hc HO Hat]
  · isplitr; · iapply (rec_send m K KE s c (sl h)); iexact HR
    isplitl [Hc]; · rw [show (slotM s (sl h)).view.dmaCredit = N from N_slot s (sl h)]; iexact Hc
    isplitl [HO]; · iexact HO
    isplitr
    · iapply (rec_wait m K KE c (kind_snd s (sl h)) 0 (by omega) hO); iexact HR
    iexact Hat
  iintro ⟨HO, Hat, #Hr, Hpay⟩
  ihave Hp := (Entails.of_eq (rest_send m s c h hh)) $$ Hpay
  rw [wp_ret]; imodintro
  iapply Hk
  isplitr [HO]
  · isplitl [Hp]; · unfold slL sendPay; iexact Hp
    isplitl [H1]; · iexact H1
    isplitl [H2]; · iexact H2
    iapply (Entails.of_eq (SPos_next s c h).symm)
    isplitl; · iexact Hat
    iexact Hr
  iexists _; iexact HO

/-- The wait for the arrival of hop `h`. -/
theorem tr_recvWait (h : ℕ) (hh : h < 30) {O : Tal} (hO : Above (2 * h + 2) O) :
    Tr m K KE c iprop(RA s c h ∗ Ow c O) (recvWait s h) iprop((recvPay m s c h ∗ RA s c (h + 1)) ∗ Ow c O) := fun Kt => by
  unfold WP recvWait Ow
  simp only [Prog.lift]
  iintro ⟨#HR, ⟨HRA, %W, HO⟩, Hk⟩
  unfold RA
  icases HRA with ⟨⟨H0, H1, H2⟩, Hcr⟩
  ihave Hcr := (Entails.of_eq (bigSep_Ico_succ_bot hh fun i => cred (tallyAt (recvCell s c (sl (i + 1))) i N))) $$ Hcr
  icases Hcr with ⟨Hc, Hcr⟩
  ihave Hat := (RPos_at s c h) $$ H0
  iapply (Rounds.wp_wait_rest_token 𝒱₀ ER (twoRd m) (c : Thread nD τ) none (κ := K (c, .inr (.inr (.inl (s, sl (h + 1))))))
      (wpE_waitDma2_eq 𝒱₀ (c : Thread nD τ) none Set.univ) (Set.mem_univ _) h (O := O) (W := W) (R := h / 3) (m := 0) (T := ∅)
      (by rw [Nat.zero_add, expect_recv m s c _ _ (by omega)]; exact N_slot s (sl (h + 1)))) $$ [Hc HO Hat]
  · isplitr; · iapply (rec_recv m K KE s c (sl (h + 1))); iexact HR
    isplitl [Hc]; · rw [show (slotM s (sl (h + 1))).view.dmaCredit = N from N_slot s (sl (h + 1))]; iexact Hc
    isplitl [HO]; · iexact HO
    isplitr
    · iapply (rec_wait m K KE c (kind_rcv s (sl (h + 1))) h hh hO); iexact HR
    iexact Hat
  iintro ⟨HO, Hat, #Hr, Hpay⟩
  ihave Hp := (Entails.of_eq (rest_recv m s c h hh)) $$ Hpay
  rw [wp_ret]; imodintro
  iapply Hk
  isplitr [HO]
  · isplitl [Hp]; · iexact Hp
    isplitr [Hcr]
    · isplitl [H1]; · iexact H1
      isplitl [H2]; · iexact H2
      iapply (Entails.of_eq (RPos_next s c h).symm)
      isplitl; · iexact Hat
      iexact Hr
    iexact Hcr
  iexists _; iexact HO

theorem RA_reached (n : ℕ) : iprop(RA (F := F) s c n) ⊢ iprop(RA s c n ∗ reached ER (recvCell s c (sl (n + 2))) ((n + 1) / 3)) := by
  unfold RA RPos
  iintro ⟨⟨H0, ⟨H1, #Hr⟩, H2⟩, Hcr⟩
  isplitl
  · isplitr [Hcr]
    · isplitl [H0]; · iexact H0
      isplitl [H1]
      · isplitl; · iexact H1
        iexact Hr
      iexact H2
    iexact Hcr
  iexact Hr

/-- The credit of hop `h`: the slot it sent is handed to the neighbour that sends here. -/
theorem tr_credit (h : ℕ) (hh : h < 28) (O : Tal) :
    Tr m K KE c iprop((anyOf c (slotM s (sl h)) ∗ RA s c (h + 1) ∗ CI s c h) ∗ Ow c (O + cT s c h)) (credit s c)
      iprop((RA s c (h + 1) ∗ CI s c (h + 1)) ∗ Ow c O) := fun Kt => by
  unfold WP credit semSignalWord Ow
  iintro ⟨#HR, ⟨⟨Hs, HRA, HCI⟩, %W, HO⟩, Hk⟩
  ihave HRA := (RA_reached s c (h + 1)) $$ HRA
  icases HRA with ⟨HRA, Hr⟩
  ihave #Hr := (Entails.of_eq (show (reached ER (recvCell s c (sl (h + 1 + 2))) ((h + 1 + 1) / 3) : sProp 𝕄)
      = reached ER (recvCell s c (sl h)) ((h + 2) / 3) by rw [show h + 1 + 2 = h + 3 from rfl, sl_add3])) $$ Hr
  unfold CI
  rw [Nat.min_eq_left (show h ≤ 28 by omega), Nat.min_eq_left (show h + 1 ≤ 28 by omega)]
  icases HCI with ⟨Htk, Hat⟩
  ihave Htk := (Entails.of_eq (bigSep_Ico_succ_bot hh fun i => dutyTok ER (credCell s (peer (!s) c)) 0 i)) $$ Htk
  icases Htk with ⟨Ht, Htk⟩
  imod (deposit s (peer (!s) c) (KE (s, peer (!s) c)) h) $$ [Hat Hs] with ⟨Hat, #Hq⟩
  · isplitr; · iapply (rec_esc m K KE s (peer (!s) c)); iexact HR
    isplitl [Hat]; · iexact Hat
    unfold PS
    rw [peer_peer', show h + 2 + 1 = h + 3 from rfl, sl_add3]
    isplitl; · iexact Hs
    iexact Hr
  iapply (Rounds.wp_signal 𝒱₀ ER (twoRd m) (c : Thread nD τ) none (dst := (peer (!s) c : Thread nD τ))
      (κ := K (peer (!s) c, .inr (.inr (.inr s)))) (r := 0) (d := h)
      (by rw [duties_cred]; exact Finset.mem_range.mpr hh) ((amount_cred m s (peer (!s) c) 0 h).trans (by decide)) h O rfl) $$ [HO Ht]
  · isplitr; · iapply (rec_cred m K KE s (peer (!s) c)); iexact HR
    isplitl [HO]; · iexact HO
    isplitl [Ht]; · iexact Ht
    isplitr; · rw [payload_cred]; iexact Hq
    iapply (rec_reached m K KE (peer (!s) c, .inr (.inr (.inr s)))); iexact HR
  iintro HO
  rw [wp_ret]; imodintro
  iapply Hk
  isplitr [HO]
  · isplitl [HRA]; · iexact HRA
    isplitl [Htk] <;> iassumption
  iexists _; iexact HO

end Steps

end Cert.KernelIdeal.Two

end
-- ==== Proof.Local.lean ====
/-
  The steps of a hop that stay on the device: the copies of rows of x into the multiplying buffers, the products, the
  sums, and the copies of finished blocks into the result.
-/
module

public import proofs.«01_k».proof.Proof.Steps
public import Idealize.ShloMosaic.Lib.Pipeline.Value
public import Idealize.ShloMosaic.Lib.Pointwise.Reshape

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

/-! ## Loads, stores and copies of owned memrefs -/

section Rules
variable (c : Dev nD) {sp sp' : Space} {sh sh' : Shape} {e : EltTy}

theorem set_sq (M : Memref sig .tc sp sh e) (r : Rect sh) (hr : ∀ a, r.stride a = 1) (hq : r.shape.Squeezes sh') :
    ((M.slice r hr).squeeze sh' hq).view.set = (M.view.slice r).set := by
  rw [Memref.set_view_squeeze]

theorem anyOf_intro (M : Memref sig .tc sp sh e) (X : sh.Idx → Elt F e) : owns (c : Thread nD τ) M fullShare X ⊢ anyOf c M := by
  unfold anyOf
  iintro H
  iexists X
  iexact H

/-- The end of a step. -/
theorem done {Q : PUnit → sProp 𝕄} : Q ⟨⟩ ⊢ WP c (Prog.ret ⟨⟩) Q := by
  unfold WP
  rw [wp_ret]
  iintro H
  imodintro
  iexact H

/-- A load of one slice of a buffer, of which the slice is owned. -/
theorem ld {α : Type} (M : Memref sig .tc .vmem sh e) (r : Rect sh) (hr : ∀ a, r.stride a = 1) (hq : r.shape.Squeezes sh')
    (hc : r.shape.ShapeCasts sh') (q : PosShare TreeShare) (X : sh'.Idx → Elt F e) {h : View.LoadsAt M.view r.toLoadRect}
    {k : (r.toLoadRect.shape.Idx → Elt F e) → PM F α} {Q : α → sProp 𝕄} :
    owns (c : Thread nD τ) ((M.slice r hr).squeeze sh' hq) q X
      ⊢ iprop((∀ v : r.toLoadRect.shape.Idx → Elt F e, (⌜shapeCast sh' v hc = X⌝
          ∗ owns (c : Thread nD τ) ((M.slice r hr).squeeze sh' hq) q X) -∗ WP c (k v) Q)
        -∗ WP c (.op (.load M r.toLoadRect h) k) Q) := by
  unfold owns
  iintro ⟨%f, %hf, H⟩ Hk
  iapply (wp_load 𝒱₀ (c : Thread nD τ) none Set.univ (m := M) (r := r.toLoadRect)
    (S := ((M.slice r hr).squeeze sh' hq).view.set) (by rw [set_sq]; exact (View.set_slice _ _).ge)) $$ [H]
  · iexact H
  iintro H
  iapply Hk
  isplitr
  · ipureintro; exact hf
  iexists f
  isplitr
  · ipureintro; exact hf
  iexact H

/-- A store over one slice of a buffer, of which the slice is owned. -/
theorem sto {α : Type} (M : Memref sig .tc .vmem sh e) (r : Rect sh) (hr : ∀ a, r.stride a = 1) (hq : r.shape.Squeezes sh')
    (hc : r.shape.ShapeCasts sh') (w : r.shape.Idx → Elt F e) {h} {h'}
    {k : PUnit → PM F α} {Q : α → sProp 𝕄} :
    anyOf c ((M.slice r hr).squeeze sh' hq)
      ⊢ iprop((owns (c : Thread nD τ) ((M.slice r hr).squeeze sh' hq) fullShare (shapeCast sh' w hc) -∗ WP c (k ⟨⟩) Q)
        -∗ WP c (.op (.store M r w Finset.univ h h') k) Q) := by
  unfold anyOf owns
  iintro ⟨%X, %f, -, H⟩ Hk
  iapply (wp_store 𝒱₀ (c : Thread nD τ) none Set.univ (m := M) (r := r) (Mk := Finset.univ)
    (S := ((M.slice r hr).squeeze sh' hq).view.set) (by rw [set_sq]; exact (View.setOn_univ _).le)) $$ [H]
  · iexact H
  iintro H
  iapply Hk
  iexists ((M.access r).write (Elt F) f w Finset.univ)
  isplitr
  · ipureintro
    rw [Memref.read_squeeze_slice M r hr hq hc, View.readAt_rect]
    exact congrArg (fun v => shapeCast sh' v hc) (View.read_write_univ (v := M.view.slice r) _ _)
  iexact H

/-- A load of a whole buffer, and a store over one. -/
theorem ld0 {α : Type} (M : Memref sig .tc .vmem sh e) (off : Fin sh.rank → ℕ) (hi : ∀ a, off a + sh.size a ≤ sh.size a)
    (hr : ∀ f, M.view.readAt (Elt F) (Rect.unit off sh.size hi).toLoadRect f = M.view.read (Elt F) f)
    (q : PosShare TreeShare) (X : sh.Idx → Elt F e) {h : View.LoadsAt M.view (Rect.unit off sh.size hi).toLoadRect}
    {k : (sh.Idx → Elt F e) → PM F α} {Q : α → sProp 𝕄} :
    owns (c : Thread nD τ) M q X
      ⊢ iprop((owns (c : Thread nD τ) M q X -∗ WP c (k X) Q)
        -∗ WP c (.op (.load M (Rect.unit off sh.size hi).toLoadRect h) k) Q) := by
  unfold owns
  iintro ⟨%f, %hf, H⟩ Hk
  subst hf
  iapply (wp_load 𝒱₀ (c : Thread nD τ) none Set.univ (m := M) (r := (Rect.unit off sh.size hi).toLoadRect)
    (S := M.view.set) (Finset.map_subset_map.mpr (Finset.subset_univ _))) $$ [H]
  · iexact H
  rw [hr]
  iintro H
  iapply Hk
  iexists f
  isplitr
  · ipureintro; rfl
  iexact H
theorem sto0 {α : Type} (M : Memref sig .tc .vmem sh e) (off : Fin sh.rank → ℕ) (hi : ∀ a, off a + sh.size a ≤ sh.size a)
    (hr : ∀ f, M.view.readAt (Elt F) (Rect.unit off sh.size hi).toLoadRect f = M.view.read (Elt F) f)
    (w : sh.Idx → Elt F e) {h} {h'} {k : PUnit → PM F α} {Q : α → sProp 𝕄} :
    anyOf c M
      ⊢ iprop((owns (c : Thread nD τ) M fullShare w -∗ WP c (k ⟨⟩) Q)
        -∗ WP c (.op (.store M (Rect.unit off sh.size hi) w Finset.univ h h') k) Q) := by
  unfold anyOf owns
  iintro ⟨%X, %f, -, H⟩ Hk
  iapply (wp_store 𝒱₀ (c : Thread nD τ) none Set.univ (m := M) (r := Rect.unit off sh.size hi) (Mk := Finset.univ)
    (S := M.view.set) (by rw [View.setOn_univ]; exact (View.set_slice _ _).le.trans (Finset.map_subset_map.mpr (Finset.subset_univ _)))) $$ [H]
  · iexact H
  iintro H
  iapply Hk
  iexists ((M.access (Rect.unit off sh.size hi)).write (Elt F) f w Finset.univ)
  isplitr
  · ipureintro
    rw [← hr]
    exact View.read_write_univ (v := M.view.slice (Rect.unit off sh.size hi)) _ _
  iexact H

/-- A memref that was written holds what was written. -/
theorem landed (dst : Memref sig .tc sp' sh e) (fd : Buf (Elt F) (dst.view.loc (c : Thread nD τ))) (X : sh.Idx → Elt F e)
    (R : sProp 𝕄) : iprop((dst.view.loc (c : Thread nD τ) ↦[dst.view.set]{fullShare} (dst.view.write (Elt F) fd X Finset.univ)) ∗ R)
      ⊢ iprop(owns (c : Thread nD τ) dst fullShare X ∗ R) := by
  unfold owns
  iintro ⟨Hd, HR⟩
  isplitl [Hd]
  · iexists (dst.view.write (Elt F) fd X Finset.univ)
    isplitr
    · ipureintro; exact View.read_write_univ _ _
    iexact Hd
  iexact HR

/-- A copy into an owned memref is started. -/
theorem copy {α : Type} (src : Memref sig .tc sp sh e) (dst : Memref sig .tc sp' sh e) (sm : DmaSem sig) (q : PosShare TreeShare)
    (f : Buf (Elt F) (src.view.loc (c : Thread nD τ))) (hn : 0 < sh.numel) {h h' h''} {k : PUnit → PM F α} {Q : α → sProp 𝕄} :
    iprop((src.view.loc (c : Thread nD τ) ↦[src.view.set]{q} f) ∗ anyOf c dst ∗ semVal ((c : Thread nD τ), .dma sm) 0)
      ⊢ iprop((Flight EC (c : Thread nD τ) (.dma sm) 0 dst.view.dmaCredit
            iprop(owns (c : Thread nD τ) dst fullShare (src.view.read (Elt F) f) ∗ (src.view.loc (c : Thread nD τ) ↦[src.view.set]{q} f))
          -∗ WP c (k ⟨⟩) Q)
        -∗ WP c (.op (.enqueueDma src (.here dst) (.dma sm) h h' h'') k) Q) := by
  unfold anyOf owns
  iintro ⟨Hs, ⟨%X, %fd, -, Hd⟩, Hv⟩ Hk
  iapply (Transfers.wp_dmaLocal EC 𝒱₀ (c : Thread nD τ) none 0 dst.view.dmaCredit rfl (View.dmaCredit_pos _ hn)
    (fs := f) (fd := fd) (q := q) (Sd := dst.view.set) (Finset.Subset.refl _)) $$ [Hs Hd Hv]
  · isplitl [Hs]; · iexact Hs
    isplitl [Hd]; · iexact Hd
    iexact Hv
  iintro Hf
  iapply Hk
  iapply (Transfers.Flight_mono EC (c : Thread nD τ) (landed c dst fd _ _))
  iexact Hf

/-- The same of a source at known contents. -/
theorem copyO {α : Type} (src : Memref sig .tc sp sh e) (dst : Memref sig .tc sp' sh e) (sm : DmaSem sig) (q : PosShare TreeShare)
    (X : sh.Idx → Elt F e) (hn : 0 < sh.numel) {h h' h''} {k : PUnit → PM F α} {Q : α → sProp 𝕄} :
    iprop(owns (c : Thread nD τ) src q X ∗ anyOf c dst ∗ semVal ((c : Thread nD τ), .dma sm) 0)
      ⊢ iprop((Flight EC (c : Thread nD τ) (.dma sm) 0 dst.view.dmaCredit
            iprop(owns (c : Thread nD τ) dst fullShare X ∗ owns (c : Thread nD τ) src q X)
          -∗ WP c (k ⟨⟩) Q)
        -∗ WP c (.op (.enqueueDma src (.here dst) (.dma sm) h h' h'') k) Q) := by
  iintro ⟨Hs, Hd, Hv⟩ Hk
  unfold owns
  icases Hs with ⟨%f, %hf, Hs⟩
  subst hf
  iapply (copy c src dst sm q f hn) $$ [Hs Hd Hv]
  · isplitl [Hs]; · iexact Hs
    isplitl [Hd] <;> iassumption
  iintro Hf
  iapply Hk
  iapply (Transfers.Flight_mono EC (c : Thread nD τ) (BI.sep_mono (Entails.refl _) (owns_intro (c : Thread nD τ) src q f)))
  iexact Hf

/-- The wait for a copy. -/
theorem land {α : Type} (K : Dev nD × CIx → ℕ) (KE : Bool × Dev nD → ℕ) (m : (ℓ : Loc nD τ sig) → Buf (Elt F) ℓ)
    {shs : Shape} {es : EltTy} (src : Memref sig .tc sp shs es) (dst : Memref sig .tc sp' sh e) (sm : DmaSem sig)
    (hk : kind (.dma sm) = .oth) {D : sProp 𝕄} {O : Tal} (hO : Above 0 O) {h h'} {k : PUnit → PM F α} {Q : α → sProp 𝕄} :
    iprop(recs m K KE ∗ Flight EC (c : Thread nD τ) (.dma sm) 0 dst.view.dmaCredit D ∗ Ow c O)
      ⊢ iprop(((D ∗ semVal ((c : Thread nD τ), .dma sm) 0 ∗ Ow c O) -∗ WP c (k ⟨⟩) Q)
        -∗ WP c (.op (.waitDma2 sm src dst h h') k) Q) := by
  unfold Ow
  iintro ⟨#HR, Hf, %W, HO⟩ Hk
  iapply (Transfers.wp_waitLocalO EC 𝒱₀ (c : Thread nD τ) none 0 (rfl : dst.view.dmaCredit = _) (O := O) (W := W)) $$ [Hf HO]
  · isplitl [Hf]; · iexact Hf
    isplitl [HO]; · iexact HO
    iapply (rec_wait m K KE c hk 0 (by omega) hO); iexact HR
  iintro ⟨HD, Hv, HO⟩
  iapply Hk
  isplitl [HD]; · iexact HD
  isplitl [Hv]; · iexact Hv
  iexists _; iexact HO

end Rules

/-! ## Rows of x -/

section Steps
variable (m : (ℓ : Loc nD τ sig) → Buf (Elt F) ℓ) {K : Dev nD × CIx → ℕ} {KE : Bool × Dev nD → ℕ}
variable (s : Bool) (c : Dev nD)

/-- The share of x each ring copies from; the device's own rows are copied from a third. -/
def xq (s : Bool) : PosShare TreeShare := if s then fullShare.right.left else fullShare.left
abbrev iqx : PosShare TreeShare := fullShare.right.right

abbrev xBuf : Buf (Elt F) ((c : Thread nD τ).loc main_arg0) := m ((c : Thread nD τ).loc main_arg0)
/-- A ring's share of x, and the part of it the copy of hop `h` reads and the part it leaves. -/
def xHeld : sProp 𝕄 := iprop((c : Thread nD τ).loc main_arg0 ↦[Finset.univ]{xq s} xBuf m c)
def xLent (h : ℕ) : sProp 𝕄 := iprop((xRow s c h).view.loc (c : Thread nD τ) ↦[(xRow s c h).view.set]{xq s} xBuf m c)
def xRest (h : ℕ) : sProp 𝕄 :=
  iprop((c : Thread nD τ).loc main_arg0 ↦[Finset.univ \ (xRow s c h).view.set]{xq s} xBuf m c)
theorem xSplit (h : ℕ) : (xHeld m s c : sProp 𝕄) ⊣⊢ iprop(xLent m s c h ∗ xRest m s c h) :=
  pointsTo_split_subset (Finset.subset_univ _)

/-- The rows of hop `h` on their way. -/
def xFly (h : ℕ) : sProp 𝕄 :=
  iprop(Flight EC (c : Thread nD τ) (.dma (xS s)) 0 (xsM s (par h)).view.dmaCredit
      iprop(owns (c : Thread nD τ) (xsM s (par h)) fullShare (xRowV m s c h) ∗ xLent m s c h) ∗ xRest m s c h)
abbrev xSem : sProp 𝕄 := semVal ((c : Thread nD τ), SemLoc.dma (xS s)) 0

/-- Between hops: the next rows on their way, or all done. -/
def XF (h : ℕ) : sProp 𝕄 :=
  if h < 15 then iprop(xFly m s c h ∗ anyOf c (xsM s (par (h + 1))))
  else iprop((xHeld m s c ∗ xSem s c) ∗ anyOf c (xsM s 0) ∗ anyOf c (xsM s 1))
/-- The rows of hop `h` arrived; and the next ones started. -/
def XW (h : ℕ) : sProp 𝕄 :=
  iprop(owns (c : Thread nD τ) (xsM s (par h)) fullShare (xRowV m s c h) ∗ (xHeld m s c ∗ xSem s c) ∗ anyOf c (xsM s (par (h + 1))))
def XG (h : ℕ) : sProp 𝕄 :=
  iprop(owns (c : Thread nD τ) (xsM s (par h)) fullShare (xRowV m s c h)
    ∗ if h + 1 < 15 then xFly m s c (h + 1) else iprop((xHeld m s c ∗ xSem s c) ∗ anyOf c (xsM s (par (h + 1)))))

variable {m}

theorem tr_xStart (h : ℕ) : Tr m K KE c iprop((xHeld m s c ∗ xSem s c) ∗ anyOf c (xsM s (par h))) (xStart s c h) (xFly m s c h) := fun Kt => by
  unfold xStart xFly
  simp only [Prog.lift]
  iintro ⟨#HR, ⟨⟨Hx, Hv⟩, Hd⟩, Hk⟩
  ihave Hx := (xSplit m s c h).1 $$ Hx
  icases Hx with ⟨Hl, Hr⟩
  iapply (copy c (xRow s c h) (xsM s (par h)) (xS s) (xq s) (xBuf m c) (by decide)) $$ [Hl Hd Hv]
  · isplitl [Hl]; · unfold xLent; iexact Hl
    isplitl [Hd] <;> iassumption
  iintro Hf
  iapply (done c)
  iapply Hk
  isplitl [Hf]; · unfold xLent; iexact Hf
  iexact Hr

theorem tr_xWait (h : ℕ) (hh : h < 15) {O : Tal} (hO : Above 0 O) :
    Tr m K KE c iprop(XF m s c h ∗ Ow c O) (xWait s c h) iprop(XW m s c h ∗ Ow c O) := fun Kt => by
  unfold xWait XF XW xFly
  rw [if_pos hh]
  simp only [Prog.lift]
  iintro ⟨#HR, ⟨⟨⟨Hf, Hr⟩, Hd⟩, HO⟩, Hk⟩
  iapply (land c K KE m (xRow s c h) (xsM s (par h)) (xS s) (kind_x s) hO) $$ [Hf HO]
  · isplitr; · iexact HR
    isplitl [Hf] <;> iassumption
  iintro ⟨⟨Hx, Hl⟩, Hv, HO⟩
  iapply (done c)
  iapply Hk
  isplitr [HO]
  · isplitl [Hx]; · iexact Hx
    isplitr [Hd]
    · isplitr [Hv]
      · iapply (xSplit m s c h).2
        isplitl [Hl] <;> iassumption
      iexact Hv
    iexact Hd
  iexact HO

/-- The next rows are started, if there are any. -/
theorem xNext (h : ℕ) {Z : sProp 𝕄} (hh : h + 1 < 15) : Tr m K KE c iprop(XW m s c h ∗ Z) (xStart s c (h + 1)) iprop(XG m s c h ∗ Z) := by
  unfold XW XG
  rw [if_pos hh]
  exact (Tr.frame iprop(owns (c : Thread nD τ) (xsM s (par h)) fullShare (xRowV m s c h) ∗ Z) (tr_xStart s c (h + 1))).conseq
    (by iintro ⟨⟨H1, H2⟩, H3⟩; isplitl [H2]; · iexact H2
        isplitl [H1] <;> iassumption)
    (by iintro ⟨H2, H1, H3⟩; isplitr [H3]
        · isplitl [H1] <;> iassumption
        iexact H3)
theorem xNone (h : ℕ) (hh : ¬ h + 1 < 15) : (XW m s c h : sProp 𝕄) ⊢ XG m s c h := by
  unfold XW XG
  rw [if_neg hh]

/-! ## Products and sums -/

theorem tmp_read (f) : (tmpM s).view.readAt (Elt F) tmpR.toLoadRect f = (tmpM s).view.read (Elt F) f := by
  cases s
  · exact Memref.readAt_unit_zero (Elt F) cc0_scratch2 (by decide) _ f
  · exact Memref.readAt_unit_zero (Elt F) cc0_scratch3 (by decide) _ f
theorem xi_read (f) : xiM.view.readAt (Elt F) xiR.toLoadRect f = xiM.view.read (Elt F) f :=
  Memref.readAt_unit_zero (Elt F) cc0_scratch6 (by decide) _ f

theorem casts_slot : S1x512x2048.ShapeCasts S512x2048 := shapeCasts_S1x512x2048_S512x2048

/-- The product of hop `h`, or nothing after the last one. -/
def TM (h : ℕ) : sProp 𝕄 :=
  if h < 15 then owns (c : Thread nD τ) (tmpM s) fullShare (mm (wH m s c) (xRowV m s c h)) else anyOf c (tmpM s)

theorem par_add2 (n : ℕ) : par (n + 2) = par n := Fin.ext (Nat.add_mod_right n 2)

theorem xKeep (h : ℕ) (hh : h < 15) : (iprop(anyOf c (xsM s (par h))
      ∗ if h + 1 < 15 then xFly m s c (h + 1) else iprop((xHeld m s c ∗ xSem s c) ∗ anyOf c (xsM s (par (h + 1))))) : sProp 𝕄)
    ⊢ XF m s c (h + 1) := by
  unfold XF
  by_cases hn : h + 1 < 15
  · rw [if_pos hn, if_pos hn, show par (h + 1 + 1) = par h from par_add2 h]
    exact sep_comm.1
  · rw [if_neg hn, if_neg hn]
    obtain rfl : h = 14 := by omega
    iintro ⟨Hx, Hn, Hd⟩
    isplitl [Hn]; · iexact Hn
    isplitl [Hx]; · iexact Hx
    iexact Hd

theorem tr_partial (h : ℕ) (hh : h < 15) :
    Tr m K KE c iprop(XG m s c h ∗ anyOf c (tmpM s)) (partialP s (wH m s c) h) iprop(XF m s c (h + 1) ∗ TM (m := m) s c h) := fun Kt => by
  unfold partialP XG TM
  rw [if_pos hh]
  simp only [Prog.lift, Prog.bind_op, Prog.bind_ret]
  iintro ⟨#HR, ⟨⟨Hx, Hn⟩, Ht⟩, Hk⟩
  unfold anyOf
  icases Ht with ⟨%X, Ht⟩
  iapply (ld c (xsA s) (xsR (par h)) (fun _ => rfl) squeezes_S1x512x512_S512x512 shapeCasts_S1x512x512_S512x512 fullShare (xRowV m s c h)) $$ Hx
  iintro %v ⟨%hv, Hx⟩
  iapply (ld0 c (tmpM s) _ _ (tmp_read s) fullShare X) $$ Ht
  iintro Ht
  iapply (sto0 c (tmpM s) _ _ (tmp_read s) (k0_pay5 (wH m s c) v)) $$ [Ht]
  · iapply (anyOf_intro c (tmpM s) X); iexact Ht
  iintro Ht
  iapply (done c)
  iapply Hk
  isplitr [Ht]
  · iapply (xKeep s c h hh)
    isplitl [Hx]; · iapply (anyOf_intro c (xsM s (par h)) (xRowV m s c h)); iexact Hx
    iexact Hn
  have : k0_pay5 (wH m s c) v = mm (wH m s c) (xRowV m s c h) := by
    rw [← hv]; exact shapeCast_self _ _
  rw [this]
  iexact Ht

/-- The arrived partial sum and the product of hop `h`. -/
theorem tr_add (h : ℕ) (hh : h < 15) : Tr m K KE c iprop(recvPay m s c h ∗ TM (m := m) s c h) (addP s (sl (h + 1)))
    iprop(owns (c : Thread nD τ) (slotM s (sl (h + 1))) fullShare (acc m s c (h + 1)) ∗ anyOf c (tmpM s)) := fun Kt => by
  unfold addP recvPay TM
  rw [if_pos hh]
  simp only [Prog.lift, Prog.bind_op, Prog.bind_ret]
  iintro ⟨#HR, ⟨Hs, Ht⟩, Hk⟩
  iapply (ld c (commM s) (slotR (sl (h + 1))) (fun _ => rfl) squeezes_S1x512x2048_S512x2048 casts_slot fullShare
    (acc m s (peer (!s) c) h)) $$ Hs
  iintro %v ⟨%hv, Hs⟩
  iapply (ld0 c (tmpM s) _ _ (tmp_read s) fullShare (mm (wH m s c) (xRowV m s c h))) $$ Ht
  iintro Ht
  iapply (ld c (commM s) (slotR (sl (h + 1))) (fun _ => rfl) squeezes_S1x512x2048_S512x2048 casts_slot fullShare
    (acc m s (peer (!s) c) h)) $$ Hs
  iintro %v' ⟨-, Hs⟩
  iapply (sto c (commM s) (slotR (sl (h + 1))) (fun _ => rfl) squeezes_S1x512x2048_S512x2048 casts_slot
    (k0_pay7 v (mm (wH m s c) (xRowV m s c h)))) $$ [Hs]
  · unfold anyOf; iexists (acc m s (peer (!s) c) h); iexact Hs
  iintro Hs
  iapply (done c)
  iapply Hk
  isplitr [Ht]
  · have : shapeCast S512x2048 (k0_pay7 v (mm (wH m s c) (xRowV m s c h))) casts_slot = acc m s c (h + 1) := by
      rw [acc_add m s c h hh, ← hv]
      exact shapeCast_shapeCast _ _ _
    rw [← this]
    iexact Hs
  unfold anyOf
  iexists _; iexact Ht
/-- Where there is no product, the arrived sum is passed on. -/
theorem add_none (h : ℕ) (hh : ¬ h < 15) : (iprop(recvPay m s c h ∗ TM (m := m) s c h) : sProp 𝕄)
    ⊢ iprop(owns (c : Thread nD τ) (slotM s (sl (h + 1))) fullShare (acc m s c (h + 1)) ∗ anyOf c (tmpM s)) := by
  unfold recvPay TM
  rw [if_neg hh, acc_pass m s c h hh]

/-- The first product. -/
theorem tr_init : Tr m K KE c iprop(anyOf c (slotM s 0) ∗ owns (c : Thread nD τ) xiM fullShare (xOwnV m c)) (initP s (wH m s c))
    iprop(owns (c : Thread nD τ) (slotM s 0) fullShare (acc m s c 0) ∗ owns (c : Thread nD τ) xiM fullShare (xOwnV m c)) := fun Kt => by
  unfold initP
  simp only [Prog.lift, Prog.bind_op, Prog.bind_ret]
  iintro ⟨#HR, ⟨Hs, Ht⟩, Hk⟩
  unfold anyOf
  icases Hs with ⟨%X, Hs⟩
  iapply (ld0 c xiM _ _ xi_read fullShare (xOwnV m c)) $$ Ht
  iintro Ht
  iapply (ld c (commM s) (slotR 0) (fun _ => rfl) squeezes_S1x512x2048_S512x2048 casts_slot fullShare X) $$ Hs
  iintro %v' ⟨-, Hs⟩
  iapply (sto c (commM s) (slotR 0) (fun _ => rfl) squeezes_S1x512x2048_S512x2048 casts_slot
    (k0_pay3 (wH m s c) (xOwnV m c))) $$ [Hs]
  · unfold anyOf; iexists X; iexact Hs
  iintro Hs
  iapply (done c)
  iapply Hk
  isplitr [Ht]
  · have : shapeCast S512x2048 (k0_pay3 (wH m s c) (xOwnV m c)) casts_slot = acc m s c 0 := by
      rw [acc]
      exact shapeCast_shapeCast _ _ _
    rw [← this]
    iexact Hs
  iexact Ht

/-! ## The result's blocks -/

variable (m)

/-- Block `j` of a ring's part of the result, written. -/
def oDone (j : ℕ) : sProp 𝕄 := owns (c : Thread nD τ) (oBlk s c j) fullShare (acc m s c (15 + j))
abbrev oSem : sProp 𝕄 := semVal ((c : Thread nD τ), SemLoc.dma (outS s)) 0
/-- The first `n` blocks written, the others not yet. -/
def OB (n : ℕ) : sProp 𝕄 :=
  iprop((bigSep (Finset.range n) fun j => oDone m s c j) ∗ (bigSep (Finset.Ico n 16) fun j => anyOf c (oBlk s c j)) ∗ oSem s c)
/-- Between hops: the half of the slot that no send reads is the device's, or a copy into the result reads it. -/
def RT (h : ℕ) : sProp 𝕄 :=
  if h < 15 then iprop(slR m s c h ∗ OB m s c 0)
  else iprop(Flight EC (c : Thread nD τ) (.dma (outS s)) 0 (oBlk s c (h - 15)).view.dmaCredit
      iprop(oDone m s c (h - 15) ∗ slR m s c h)
    ∗ (bigSep (Finset.range (h - 15)) fun j => oDone m s c j) ∗ bigSep (Finset.Ico (h - 14) 16) fun j => anyOf c (oBlk s c j))

variable {m}

theorem tr_outWait (h : ℕ) (hh : 15 ≤ h) {O : Tal} (hO : Above 0 O) :
    Tr m K KE c iprop(RT m s c h ∗ Ow c O) (outWait s c (h - 15)) iprop((slR m s c h ∗ OB m s c (h + 1 - 15)) ∗ Ow c O) := fun Kt => by
  unfold outWait RT OB
  rw [if_neg (by omega), show h + 1 - 15 = h - 15 + 1 by omega, show h - 14 = h - 15 + 1 by omega]
  simp only [Prog.lift]
  iintro ⟨#HR, ⟨⟨Hf, Hd, Hn⟩, HO⟩, Hk⟩
  iapply (land c K KE m (slotM s 0) (oBlk s c (h - 15)) (outS s) (kind_out s) hO) $$ [Hf HO]
  · isplitr; · iexact HR
    isplitl [Hf] <;> iassumption
  iintro ⟨⟨Hb, Hs⟩, Hv, HO⟩
  iapply (done c)
  iapply Hk
  isplitr [HO]
  · isplitl [Hs]; · iexact Hs
    isplitl [Hb Hd]
    · rw [bigSep_range_succ]
      isplitl [Hb] <;> iassumption
    isplitl [Hn] <;> iassumption
  iexact HO
theorem out_none (h : ℕ) (hh : ¬ 15 ≤ h) : (RT m s c h : sProp 𝕄) ⊢ iprop(slR m s c h ∗ OB m s c (h + 1 - 15)) := by
  unfold RT
  rw [if_pos (by omega), show h + 1 - 15 = 0 by omega]

theorem tr_outStart (h : ℕ) (hh : 14 ≤ h) (hh' : h < 30) :
    Tr m K KE c iprop(owns (c : Thread nD τ) (slotM s (sl (h + 1))) fullShare (acc m s c (h + 1)) ∗ OB m s c (h + 1 - 15))
      (outStart s c (sl (h + 1)) (h - 14)) iprop(slL m s c (h + 1) ∗ RT m s c (h + 1)) := fun Kt => by
  unfold outStart OB RT
  rw [if_neg (by omega), show h + 1 - 15 = h - 14 by omega, show h + 1 - 14 = h - 14 + 1 by omega,
    bigSep_Ico_succ_bot (show h - 14 < 16 by omega)]
  simp only [Prog.lift]
  iintro ⟨#HR, ⟨Hs, Hd, ⟨Hb, Hn⟩, Hv⟩, Hk⟩
  ihave Hs := (slLR m s c (h + 1)).2 $$ Hs
  icases Hs with ⟨Hl, Hr⟩
  iapply (copyO c (slotM s (sl (h + 1))) (oBlk s c (h - 14)) (outS s) fullShare.right (acc m s c (h + 1)) (by decide)) $$ [Hr Hb Hv]
  · isplitl [Hr]; · unfold slR; iexact Hr
    isplitl [Hb] <;> iassumption
  iintro Hf
  iapply (done c)
  iapply Hk
  isplitl [Hl]; · iexact Hl
  isplitl [Hf]
  · unfold oDone slR
    rw [show 15 + (h - 14) = h + 1 by omega]
    iexact Hf
  isplitl [Hd] <;> iassumption
theorem start_none (h : ℕ) (hh : ¬ 14 ≤ h) :
    (iprop(owns (c : Thread nD τ) (slotM s (sl (h + 1))) fullShare (acc m s c (h + 1)) ∗ OB m s c (h + 1 - 15)) : sProp 𝕄)
      ⊢ iprop(slL m s c (h + 1) ∗ RT m s c (h + 1)) := by
  unfold RT
  rw [if_pos (by omega), show h + 1 - 15 = 0 by omega]
  iintro ⟨Hs, HO⟩
  ihave Hs := (slLR m s c (h + 1)).2 $$ Hs
  icases Hs with ⟨Hl, Hr⟩
  isplitl [Hl]; · iexact Hl
  isplitl [Hr] <;> iassumption

end Steps

end Cert.KernelIdeal.Two

end
-- ==== Proof.Hop.lean ====
/-
  The body of the kernel: the handshake, what precedes the hops, a hop at a symbolic number, all thirty, and what follows
  them. `RS s c h` is what ring `s` of device `c` has before hop `h`.
-/
module

public import proofs.«01_k».proof.Proof.Local

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable {m : (ℓ : Loc nD τ sig) → Buf (Elt F) ℓ} {K : Dev nD × CIx → ℕ} {KE : Bool × Dev nD → ℕ}

/-! ## Both rings at once -/

section Both
variable {c : Dev nD}

theorem Tr.bothF {A B P Q R : Bool → sProp 𝕄} {Z Z' : sProp 𝕄} {p : PM F PUnit}
    (h : Tr m K KE c iprop(both P ∗ Z) p iprop(both Q ∗ Z'))
    (hA : ∀ s, A s ⊢ iprop(P s ∗ R s)) (hB : ∀ s, iprop(Q s ∗ R s) ⊢ B s) :
    Tr m K KE c iprop(both A ∗ Z) p iprop(both B ∗ Z') :=
  (Tr.frame iprop(R false ∗ R true) h).conseq
    (by
      iintro ⟨⟨H1, H2⟩, HZ⟩
      ihave H1 := (hA false) $$ H1
      ihave H2 := (hA true) $$ H2
      icases H1 with ⟨H1, H3⟩
      icases H2 with ⟨H2, H4⟩
      isplitl [H1 H2 HZ]
      · isplitl [H1 H2]
        · isplitl [H1] <;> iassumption
        iexact HZ
      isplitl [H3] <;> iassumption)
    (by
      iintro ⟨⟨⟨H1, H2⟩, HZ⟩, H3, H4⟩
      isplitr [HZ]
      · isplitl [H1 H3]
        · iapply (hB false)
          isplitl [H1] <;> iassumption
        · iapply (hB true)
          isplitl [H2] <;> iassumption
      iexact HZ)

theorem Tr.pairF {A B P Q R : Bool → sProp 𝕄} {Z₀ Z₁ Z₂ : sProp 𝕄} {p : Bool → PM F PUnit}
    (h₀ : Tr m K KE c iprop(P false ∗ Z₀) (p false) iprop(Q false ∗ Z₁))
    (h₁ : Tr m K KE c iprop(P true ∗ Z₁) (p true) iprop(Q true ∗ Z₂))
    (hA : ∀ s, A s ⊢ iprop(P s ∗ R s)) (hB : ∀ s, iprop(Q s ∗ R s) ⊢ B s) :
    Tr m K KE c iprop(both A ∗ Z₀) (p false >>= fun _ => p true) iprop(both B ∗ Z₂) :=
  Tr.bothF (Tr.pair h₀ h₁) hA hB

theorem Tr.pairW {A B P Q R : Bool → sProp 𝕄} {Z₀ Z₁ Z₂ : sProp 𝕄} {p : Bool → PM F PUnit} {b : Prop} [Decidable b]
    (h₀ : b → Tr m K KE c iprop(P false ∗ Z₀) (p false) iprop(Q false ∗ Z₁))
    (h₁ : b → Tr m K KE c iprop(P true ∗ Z₁) (p true) iprop(Q true ∗ Z₂))
    (hn : ¬ b → ∀ s, P s ⊢ Q s) (hz : ¬ b → (Z₀ ⊢ Z₂))
    (hA : ∀ s, A s ⊢ iprop(P s ∗ R s)) (hB : ∀ s, iprop(Q s ∗ R s) ⊢ B s) :
    Tr m K KE c iprop(both A ∗ Z₀) (whenP b (p false >>= fun _ => p true)) iprop(both B ∗ Z₂) :=
  Tr.when (fun hb => Tr.pairF (h₀ hb) (h₁ hb) hA hB) (fun hb => by
    have hs : ∀ s, A s ⊢ B s := fun s =>
      (hA s).trans ((BI.sep_mono (hn hb s) (Entails.refl _)).trans (hB s))
    exact BI.sep_mono (BI.sep_mono (hs false) (hs true)) (hz hb))

theorem Tr.whenB {A B P Q R : Bool → sProp 𝕄} {Z : sProp 𝕄} {p : PM F PUnit} {b : Prop} [Decidable b]
    (h : b → Tr m K KE c iprop(both P ∗ Z) p iprop(both Q ∗ Z)) (hn : ¬ b → ∀ s, P s ⊢ Q s)
    (hA : ∀ s, A s ⊢ iprop(P s ∗ R s)) (hB : ∀ s, iprop(Q s ∗ R s) ⊢ B s) :
    Tr m K KE c iprop(both A ∗ Z) (whenP b p) iprop(both B ∗ Z) :=
  Tr.when (fun hb => Tr.bothF (h hb) hA hB) (fun hb => by
    have hs : ∀ s, A s ⊢ B s := fun s =>
      (hA s).trans ((BI.sep_mono (hn hb s) (Entails.refl _)).trans (hB s))
    exact BI.sep_mono (BI.sep_mono (hs false) (hs true)) (Entails.refl _))

theorem Tr.pairSeq {P Q R : sProp 𝕄} {p : Bool → PM F PUnit} {q : PM F PUnit}
    (h : Tr m K KE c P (p false >>= fun _ => p true) Q) (hq : Tr m K KE c Q q R) :
    Tr m K KE c P (p false >>= fun _ => p true >>= fun _ => q) R := by
  have := Tr.seq h hq
  rwa [Prog.bind_assoc] at this

end Both

/-! ## A hop -/

section Hop
variable (s : Bool) (c : Dev nD) (h : ℕ)

/-- What a device owes with `r` sends and `k` credits of each ring done. -/
abbrev OW (r k : ℕ) : sProp 𝕄 := Ow c (ow c (fun _ => r) fun _ => k)

theorem FP_next (hh : h < 2) : (FP s c h : sProp 𝕄) = iprop(PS s c h ∗ FP s c (h + 1)) := by
  unfold FP; exact bigSep_Ico_succ_bot hh _
theorem FP_none (hh : 2 ≤ h) : (FP s c h : sProp 𝕄) = FP s c (h + 1) := by
  unfold FP; rw [Finset.Ico_eq_empty_of_le hh, Finset.Ico_eq_empty_of_le (by omega)]

theorem step_wait (hh : h < 30) (hb : 2 ≤ h) {O : Tal} (hO : Above (2 * (h - 2) + 3) O) :
    Tr m K KE c iprop((CW s c (h - 2) ∗ FP s c h) ∗ Ow c O) (creditWait s)
      iprop((CW s c (h - 1) ∗ FP s c (h + 1) ∗ PS s c h) ∗ Ow c O) := by
  have := Tr.frame (FP s c h) (tr_creditWait (m := m) (K := K) (KE := KE) s c (h - 2) (by omega) hO)
  rw [show h - 2 + 1 = h - 1 by omega, show h - 2 + 2 = h by omega] at this
  refine this.conseq ?_ ?_
  · iintro ⟨⟨H1, H2⟩, H3⟩; iframe
  · rw [← FP_none s c h hb]
    iintro ⟨⟨⟨H1, H2⟩, H3⟩, H4⟩; iframe
theorem step_free (hb : ¬ 2 ≤ h) : (iprop(CW s c (h - 2) ∗ FP s c h) : sProp 𝕄) ⊢ iprop(CW s c (h - 1) ∗ FP s c (h + 1) ∗ PS s c h) := by
  rw [FP_next s c h (by omega), show h - 2 = 0 by omega, show h - 1 = 0 by omega]
  iintro ⟨H1, H2, H3⟩; iframe

theorem step_dma (hh : h < 30) {O : Tal} (h0 : Above 0 O) (hO : Above (2 * h + 2) O) :
    Tr m K KE c iprop(((cred (tallyAt (sendCell s c (sl h)) 0 N) ∗ SA s c h) ∗ RA s c h) ∗ Ow c O)
      (sendWait s h >>= fun _ => recvWait s h)
      iprop(((slL m s c h ∗ SA s c (h + 1)) ∗ recvPay m s c h ∗ RA s c (h + 1)) ∗ Ow c O) :=
  ((Tr.frame (RA s c h) (tr_sendWait (m := m) (K := K) (KE := KE) s c h hh h0)).conseq
      (Q' := iprop((RA s c h ∗ Ow c O) ∗ slL m s c h ∗ SA s c (h + 1)))
      (by iintro ⟨⟨H1, H2⟩, H3⟩; isplitr [H2]
          · isplitl [H1] <;> iassumption
          iexact H2)
      (by iintro ⟨⟨H1, H2⟩, H3⟩; isplitr [H1]
          · isplitl [H3] <;> iassumption
          iexact H1)).seq
    ((Tr.frame iprop(slL m s c h ∗ SA s c (h + 1)) (tr_recvWait (m := m) (K := K) (KE := KE) s c h hh hO)).conseq
      (Entails.refl _)
      (by iintro ⟨⟨H1, H2⟩, H3⟩; isplitr [H2]
          · isplitl [H3] <;> iassumption
          iexact H2))

theorem slots_any : (iprop(slL m s c h ∗ slR m s c h) : sProp 𝕄) ⊢ anyOf c (slotM s (sl h)) :=
  (slLR m s c h).1.trans (anyOf_intro c (slotM s (sl h)) (acc m s c h))

theorem step_credit (hb : h < 28) {O : Tal} :
    Tr m K KE c iprop(((slL m s c h ∗ slR m s c h) ∗ RA s c (h + 1) ∗ CI s c h ∗ LO s c h) ∗ Ow c (O + cT s c h)) (credit s c)
      iprop((RA s c (h + 1) ∗ CI s c (h + 1) ∗ LO s c (h + 1)) ∗ Ow c O) := by
  have e : (LO s c h : sProp 𝕄) = LO s c (h + 1) := by
    unfold LO; rw [Finset.Ico_eq_empty_of_le (by omega), Finset.Ico_eq_empty_of_le (by omega)]
  rw [e]
  refine (Tr.frame (LO s c (h + 1)) (tr_credit (m := m) (K := K) (KE := KE) s c h hb O)).conseq ?_ ?_
  · iintro ⟨⟨H1, H2, H3, H4⟩, H5⟩
    isplitr [H4]
    · isplitr [H5]
      · isplitl [H1]; · iapply (slots_any s c h) $$ H1
        isplitl [H2] <;> iassumption
      iexact H5
    iexact H4
  · iintro ⟨⟨⟨H1, H2⟩, H3⟩, H4⟩
    isplitr [H3]
    · isplitl [H1]; · iexact H1
      isplitl [H2] <;> iassumption
    iexact H3
theorem step_keep (hb : ¬ h < 28) : (iprop((slL m s c h ∗ slR m s c h) ∗ RA s c (h + 1) ∗ CI s c h ∗ LO s c h) : sProp 𝕄)
    ⊢ iprop(RA s c (h + 1) ∗ CI s c (h + 1) ∗ LO s c (h + 1)) := by
  have e : (LO s c (h + 1) : sProp 𝕄) = iprop(anyOf c (slotM s (sl h)) ∗ LO s c h) := by
    unfold LO; exact bigSep_Ico_succ_top (by omega) _
  have e' : (CI s c h : sProp 𝕄) = CI s c (h + 1) := by
    unfold CI; rw [Finset.Ico_eq_empty_of_le (by omega), Finset.Ico_eq_empty_of_le (by omega), Nat.min_eq_right (by omega),
      Nat.min_eq_right (by omega)]
  rw [e, e']
  iintro ⟨H1, H2, H3, H4⟩
  isplitl [H2]; · iexact H2
  isplitl [H3]; · iexact H3
  isplitl [H1]; · iapply (slots_any s c h) $$ H1
  iexact H4

/-- Multiplying. -/
theorem tr_mul (hh : h < 15) {O : Tal} (hO : Above 0 O) :
    Tr m K KE c iprop(both (fun s => iprop(XF m s c h ∗ anyOf c (tmpM s))) ∗ Ow c O) (mulP c (wH m false c) (wH m true c) h)
      iprop(both (fun s => iprop(XF m s c (h + 1) ∗ TM (m := m) s c h)) ∗ Ow c O) := by
  unfold mulP
  refine Tr.pairSeq (Q := iprop(both (fun s => iprop(XW m s c h ∗ anyOf c (tmpM s))) ∗ Ow c O)) (p := fun s => xWait s c h)
    (Tr.pairF (p := fun s => xWait s c h) (P := fun s => XF m s c h) (Q := fun s => XW m s c h) (R := fun s => anyOf c (tmpM s)) (tr_xWait false c h hh hO) (tr_xWait true c h hh hO)
      (fun s => Entails.refl _) (fun s => Entails.refl _)) ?_
  refine Tr.seq (Q := iprop(both (fun s => iprop(XG m s c h ∗ anyOf c (tmpM s))) ∗ Ow c O))
    (Tr.pairW (p := fun s => xStart s c (h + 1)) (P := fun s => XW m s c h) (Q := fun s => XG m s c h) (R := fun s => anyOf c (tmpM s))
      (Z₁ := Ow c O) (fun hb => xNext false c h hb)
      (fun hb => xNext true c h hb) (fun hb s => xNone s c h hb) (fun _ => Entails.refl _)
      (fun s => Entails.refl _) (fun s => Entails.refl _)) ?_
  exact Tr.pair (p := fun s => partialP s (wH m s c) h) (Tr.frame (Ow c O) (tr_partial false c h hh)) (Tr.frame (Ow c O) (tr_partial true c h hh))
theorem mul_none (hh : ¬ h < 15) : (iprop(XF m s c h ∗ anyOf c (tmpM s)) : sProp 𝕄) ⊢ iprop(XF m s c (h + 1) ∗ TM (m := m) s c h) := by
  unfold XF TM
  rw [if_neg hh, if_neg hh, if_neg (by omega)]

/-- What ring `s` has before hop `h`. -/
def RS (m : (ℓ : Loc nD τ sig) → Buf (Elt F) ℓ) (s : Bool) (c : Dev nD) (h : ℕ) : sProp 𝕄 :=
  iprop((CW s c (h - 2) ∗ FP s c h) ∗ slL m s c h ∗ SA s c h ∗ TK s c h ∗ (XF m s c h ∗ anyOf c (tmpM s)) ∗ RA s c h ∗ RT m s c h
    ∗ CI s c h ∗ LO s c h)

theorem OW_late (r : ℕ) (hb : ¬ h < 28) : (OW c r h : sProp 𝕄) ⊢ OW c r (h + 1) := by
  have : ow c (fun _ => r) (fun _ => h) = ow c (fun _ => r) (fun _ => h + 1) := by
    unfold ow
    rw [Finset.Ico_eq_empty_of_le (by omega : 28 ≤ h), Finset.Ico_eq_empty_of_le (by omega : 28 ≤ h + 1)]
  unfold OW; rw [this]

theorem tr_hop (hh : h < 30) : Tr m K KE c iprop(both (fun s => RS m s c h) ∗ OW c h h)
    (hop c (wH m false c) (wH m true c) h) iprop(both (fun s => RS m s c (h + 1)) ∗ OW c (h + 1) (h + 1)) := by
  have hO1 : Above (2 * (h - 2) + 3) (ow c (fun _ => h) fun _ => h) ∨ ¬ 2 ≤ h := by
    by_cases hb : 2 ≤ h
    · exact .inl (above_ow c _ _ (fun _ => by omega) (fun _ => by omega))
    · exact .inr hb
  have hO2 : Above (2 * h + 2) (ow c (fun _ => h + 1) fun _ => h) := above_ow c _ _ (fun _ => by omega) (fun _ => by omega)
  have hO3 : Above 0 (ow c (fun _ => h + 1) fun _ => h) := above_ow c _ _ (fun _ => by omega) (fun _ => by omega)
  unfold hop
  refine Tr.seq (Tr.pairW (p := fun s => creditWait s) (P := fun s => iprop(CW s c (h - 2) ∗ FP s c h))
    (Q := fun s => iprop(CW s c (h - 1) ∗ FP s c (h + 1) ∗ PS s c h)) (Z₁ := OW c h h) (Z₂ := OW c h h)
    (R := fun s => iprop(slL m s c h ∗ SA s c h ∗ TK s c h ∗ (XF m s c h ∗ anyOf c (tmpM s)) ∗ RA s c h ∗ RT m s c h
      ∗ CI s c h ∗ LO s c h))
    (fun hb => step_wait false c h hh hb (hO1.resolve_right (not_not.mpr hb)))
    (fun hb => step_wait true c h hh hb (hO1.resolve_right (not_not.mpr hb)))
    (fun hb s => step_free s c h hb) (fun _ => Entails.refl _) (fun s => by unfold RS; exact Entails.refl _) (fun s => Entails.refl _)) ?_
  refine Tr.pairSeq (p := fun s => send s c h) (Tr.pairF (p := fun s => send s c h)
    (P := fun s => iprop(slL m s c h ∗ PS s c h ∗ SA s c h ∗ TK s c h))
    (Q := fun s => iprop(cred (tallyAt (sendCell s c (sl h)) 0 N) ∗ SA s c h ∗ TK s c (h + 1)))
    (R := fun s => iprop((CW s c (h - 1) ∗ FP s c (h + 1)) ∗ (XF m s c h ∗ anyOf c (tmpM s)) ∗ RA s c h ∗ RT m s c h ∗ CI s c h ∗ LO s c h))
    (Z₁ := Ow c (ow c (up false fun _ => h) fun _ => h)) (Z₂ := OW c (h + 1) h)
    (by unfold OW; rw [ow_send c (fun _ => h) (fun _ => h) false h rfl hh]; exact tr_send false c h hh _)
    (by unfold OW; rw [ow_send c (up false fun _ => h) (fun _ => h) true h rfl hh, up_both]; exact tr_send true c h hh _)
    (fun s => by iintro ⟨⟨H1, H2, H3⟩, H4, H5, H6, H7, H8, H9, H10, H11⟩; iframe)
    (fun s => Entails.refl _)) ?_
  refine Tr.seq (Tr.whenB (P := fun s => iprop(XF m s c h ∗ anyOf c (tmpM s))) (Q := fun s => iprop(XF m s c (h + 1) ∗ TM (m := m) s c h))
    (R := fun s => iprop((CW s c (h - 1) ∗ FP s c (h + 1)) ∗ cred (tallyAt (sendCell s c (sl h)) 0 N) ∗ SA s c h ∗ TK s c (h + 1)
      ∗ RA s c h ∗ RT m s c h ∗ CI s c h ∗ LO s c h))
    (fun hb => tr_mul c h hb hO3) (fun hb s => mul_none s c h hb)
    (fun s => by iintro ⟨⟨H1, H2, H3⟩, H4, ⟨H5, H6⟩, H7, H8, H9, H10⟩; iframe)
    (fun s => Entails.refl _)) ?_
  refine Tr.seq (q := _) (Q := iprop(both (fun s => iprop(((slL m s c h ∗ SA s c (h + 1)) ∗ recvPay m s c h ∗ RA s c (h + 1))
      ∗ (CW s c (h - 1) ∗ FP s c (h + 1)) ∗ TK s c (h + 1) ∗ RT m s c h ∗ CI s c h ∗ LO s c h ∗ XF m s c (h + 1) ∗ TM (m := m) s c h))
      ∗ OW c (h + 1) h)) ?_ ?_
  · have := Tr.pairF (p := fun s => sendWait s h >>= fun _ => recvWait s h)
      (P := fun s => iprop((cred (tallyAt (sendCell s c (sl h)) 0 N) ∗ SA s c h) ∗ RA s c h))
      (Q := fun s => iprop((slL m s c h ∗ SA s c (h + 1)) ∗ recvPay m s c h ∗ RA s c (h + 1)))
      (A := fun s => iprop((XF m s c (h + 1) ∗ TM (m := m) s c h)
      ∗ (CW s c (h - 1) ∗ FP s c (h + 1)) ∗ cred (tallyAt (sendCell s c (sl h)) 0 N) ∗ SA s c h ∗ TK s c (h + 1)
      ∗ RA s c h ∗ RT m s c h ∗ CI s c h ∗ LO s c h))
      (R := fun s => iprop((CW s c (h - 1) ∗ FP s c (h + 1)) ∗ TK s c (h + 1) ∗ RT m s c h ∗ CI s c h ∗ LO s c h ∗ XF m s c (h + 1)
        ∗ TM (m := m) s c h))
      (step_dma (m := m) (K := K) (KE := KE) false c h hh hO3 hO2) (step_dma (m := m) (K := K) (KE := KE) true c h hh hO3 hO2)
      (fun s => by iintro ⟨⟨H1, H2⟩, ⟨H3, H4⟩, H5, H6, H7, H8, H9, H10, H11⟩; iframe) (fun s => Entails.refl _)
    rw [Prog.bind_assoc] at this
    exact this
  refine Tr.seq (Tr.pairW (p := fun s => outWait s c (h - 15)) (P := fun s => RT m s c h)
    (Q := fun s => iprop(slR m s c h ∗ OB m s c (h + 1 - 15))) (Z₁ := OW c (h + 1) h) (Z₂ := OW c (h + 1) h)
    (R := fun s => iprop((slL m s c h ∗ SA s c (h + 1)) ∗ (recvPay m s c h ∗ RA s c (h + 1))
      ∗ (CW s c (h - 1) ∗ FP s c (h + 1)) ∗ TK s c (h + 1) ∗ CI s c h ∗ LO s c h ∗ XF m s c (h + 1) ∗ TM (m := m) s c h))
    (fun hb => tr_outWait false c h hb hO3) (fun hb => tr_outWait true c h hb hO3)
    (fun hb s => out_none s c h hb) (fun _ => Entails.refl _)
    (fun s => by iintro ⟨⟨⟨H1, H2⟩, H3, H4⟩, ⟨H5, H6⟩, H7, H8, H9, H10, H11, H12⟩; iframe) (fun s => Entails.refl _)) ?_
  refine Tr.seq (Tr.pairW (p := fun s => credit s c) (P := fun s => iprop((slL m s c h ∗ slR m s c h) ∗ RA s c (h + 1) ∗ CI s c h ∗ LO s c h))
    (Q := fun s => iprop(RA s c (h + 1) ∗ CI s c (h + 1) ∗ LO s c (h + 1)))
    (Z₁ := Ow c (ow c (fun _ => h + 1) (up false fun _ => h))) (Z₂ := OW c (h + 1) (h + 1))
    (R := fun s => iprop(OB m s c (h + 1 - 15) ∗ SA s c (h + 1) ∗ recvPay m s c h
      ∗ (CW s c (h - 1) ∗ FP s c (h + 1)) ∗ TK s c (h + 1) ∗ XF m s c (h + 1) ∗ TM (m := m) s c h))
    (fun hb => by unfold OW; rw [ow_credit c (fun _ => h + 1) (fun _ => h) false h rfl hb]; exact step_credit false c h hb)
    (fun hb => by
      unfold OW; rw [ow_credit c (fun _ => h + 1) (up false fun _ => h) true h rfl hb, up_both]; exact step_credit true c h hb)
    (fun hb s => step_keep s c h hb) (fun hb => OW_late c h (h + 1) hb)
    (fun s => by iintro ⟨⟨H1, H2⟩, ⟨H3, H4⟩, ⟨H5, H6⟩, ⟨H7, H8⟩, H9, H10, H11, H12, H13⟩; iframe) (fun s => Entails.refl _)) ?_
  refine Tr.seq (Tr.pairW (p := fun s => addP s (sl (h + 1))) (P := fun s => iprop(recvPay m s c h ∗ TM (m := m) s c h))
    (Q := fun s => iprop(owns (c : Thread nD τ) (slotM s (sl (h + 1))) fullShare (acc m s c (h + 1)) ∗ anyOf c (tmpM s)))
    (Z₁ := OW c (h + 1) (h + 1)) (Z₂ := OW c (h + 1) (h + 1))
    (R := fun s => iprop((RA s c (h + 1) ∗ CI s c (h + 1) ∗ LO s c (h + 1)) ∗ OB m s c (h + 1 - 15) ∗ SA s c (h + 1)
      ∗ (CW s c (h - 1) ∗ FP s c (h + 1)) ∗ TK s c (h + 1) ∗ XF m s c (h + 1)))
    (fun hb => Tr.frame _ (tr_add false c h hb)) (fun hb => Tr.frame _ (tr_add true c h hb))
    (fun hb s => add_none s c h hb) (fun _ => Entails.refl _)
    (fun s => by iintro ⟨⟨H1, H2, H3⟩, H4, H5, H6, ⟨H7, H8⟩, H9, H10, H11⟩; iframe) (fun s => Entails.refl _)) ?_
  refine Tr.pairW (p := fun s => outStart s c (sl (h + 1)) (h - 14))
    (P := fun s => iprop(owns (c : Thread nD τ) (slotM s (sl (h + 1))) fullShare (acc m s c (h + 1)) ∗ OB m s c (h + 1 - 15)))
    (Q := fun s => iprop(slL m s c (h + 1) ∗ RT m s c (h + 1)))
    (Z₁ := OW c (h + 1) (h + 1)) (Z₂ := OW c (h + 1) (h + 1))
    (R := fun s => iprop(anyOf c (tmpM s) ∗ (RA s c (h + 1) ∗ CI s c (h + 1) ∗ LO s c (h + 1)) ∗ SA s c (h + 1)
      ∗ (CW s c (h - 1) ∗ FP s c (h + 1)) ∗ TK s c (h + 1) ∗ XF m s c (h + 1)))
    (fun hb => Tr.frame _ (tr_outStart false c h hb hh)) (fun hb => Tr.frame _ (tr_outStart true c h hb hh))
    (fun hb s => start_none s c h hb) (fun _ => Entails.refl _)
    (fun s => by iintro ⟨⟨H1, H2⟩, ⟨H3, H4, H5⟩, H6, H7, ⟨H8, H9⟩, H10, H11⟩; iframe)
    (fun s => by
      unfold RS
      rw [show h + 1 - 2 = h - 1 by omega]
      iintro ⟨⟨H1, H2⟩, H3, ⟨H4, H5, H6⟩, H7, ⟨H8, H9⟩, H10, H11⟩; iframe)

end Hop

/-! ## What comes before the hops and after them -/

section Ends
variable (c : Dev nD)

theorem tr_hops (n : ℕ) : ∀ h, h + n ≤ 30 → Tr m K KE c iprop(both (fun s => RS m s c h) ∗ OW c h h)
    (hops c (wH m false c) (wH m true c) n h) iprop(both (fun s => RS m s c (h + n)) ∗ OW c (h + n) (h + n)) := by
  induction n with
  | zero => intro h _; exact Tr.nop (Entails.refl _)
  | succ n ih =>
    intro h hn
    have := Tr.seq (tr_hop (m := m) (K := K) (KE := KE) c h (by omega)) (ih (h + 1) (by omega))
    rw [show h + 1 + n = h + (n + 1) by omega] at this
    exact this

/-- A step and an update after it. -/
theorem Tr.after {P Q R : sProp 𝕄} {p : PM F PUnit} (hp : Tr m K KE c P p Q) (h : iprop(recs m K KE ∗ Q) ⊢ |={Set.univ}=> R) :
    Tr m K KE c P p R := by
  have : Tr m K KE c P (p >>= fun _ => pure ⟨⟩) R := Tr.seq hp fun Kt => by
    unfold WP; rw [Prog.pure_eq_ret, wp_ret]
    iintro ⟨#HR, HQ, Hk⟩
    imod h $$ [HQ] with HR'
    · isplitr; · iexact HR
      iexact HQ
    imodintro
    iapply Hk $$ HR'
  have e : (p >>= fun _ => pure ⟨⟩ : PM F PUnit) = p := Prog.bind_pure p
  rwa [e] at this

/-- A device's two slots for the neighbour's first two sends. -/
def first (s : Bool) (c : Dev nD) : sProp 𝕄 := iprop(anyOf c (slotM s (sl 1)) ∗ anyOf c (slotM s (sl 2)))

theorem first_pay (s : Bool) : iprop(recs m K KE ∗ first s c) ⊢ (twoRd m).payload (barCell (peer (!s) c)) 0 (num s) := by
  rw [payload_bar]
  unfold PS first
  rw [peer_peer']
  iintro ⟨#HR, H1, H2⟩
  isplitl [H1]
  · isplitl [H1]; · iexact H1
    iapply (rec_reached m K KE (c, .inr (.inr (.inl (s, sl 1))))); iexact HR
  · isplitl [H2]; · iexact H2
    iapply (rec_reached m K KE (c, .inr (.inr (.inl (s, sl 2))))); iexact HR

/-- The handshake. -/
theorem tr_hello : Tr m K KE c iprop((both (fun s => iprop(first s c ∗ dutyTok ER (barCell (peer (!s) c)) 0 (num s)))
      ∗ atPos ER (barCell c) 0 ∅ 0 ∗ cred (tallyAt (barCell c) 0 2)) ∗ Ow c (O₀ c)) (hello c)
    iprop((both (fun s => FP s c 0) ∗ atPos ER (barCell c) 1 ∅ 0) ∗ OW c 0 0) := fun Kt => by
  unfold WP hello semSignalWord semWaitWord OW Ow O₀ O₁
  simp only [Prog.lift, Prog.bind_op, Prog.bind_ret]
  iintro ⟨#HR, ⟨⟨⟨⟨Hf, Htf⟩, Ht, Htt⟩, Hat, Hc⟩, %W, HO⟩, Hk⟩
  ihave Hf := (show iprop(recs m K KE ∗ first false c) ⊢ (twoRd m).payload (barCell (peer true c)) 0 (num false) from first_pay c false) $$ [Hf]
  · isplitr; · iexact HR
    iexact Hf
  ihave Ht := (show iprop(recs m K KE ∗ first true c) ⊢ (twoRd m).payload (barCell (peer false c)) 0 (num true) from first_pay c true) $$ [Ht]
  · isplitr; · iexact HR
    iexact Ht
  iapply (Rounds.wp_signal 𝒱₀ ER (twoRd m) (c : Thread nD τ) none (dst := (peer true c : Thread nD τ))
      (κ := K (peer true c, .inl ())) (r := 0) (d := num false)
      (by rw [duties_bar]; exact num_mem false) ((amount_bar m (peer true c) 0 (num false)).trans (by decide)) 0
      (ow c 0 0 + tallyAt (barCell (peer false c)) 0 1) rfl) $$ [HO Htf Hf]
  · isplitr; · iapply (rec_bar m K KE (peer true c)); iexact HR
    isplitl [HO]; · iexact HO
    isplitl [Htf]; · iexact Htf
    isplitl [Hf]; · iexact Hf
    iapply (rec_reached m K KE (peer true c, .inl ())); iexact HR
  iintro HO
  iapply (Rounds.wp_signal 𝒱₀ ER (twoRd m) (c : Thread nD τ) none (dst := (peer false c : Thread nD τ))
      (κ := K (peer false c, .inl ())) (r := 0) (d := num true)
      (by rw [duties_bar]; exact num_mem true) ((amount_bar m (peer false c) 0 (num true)).trans (by decide)) 0
      (ow c 0 0) rfl) $$ [HO Htt Ht]
  · isplitr; · iapply (rec_bar m K KE (peer false c)); iexact HR
    isplitl [HO]; · iexact HO
    isplitl [Htt]; · iexact Htt
    isplitl [Ht]; · iexact Ht
    iapply (rec_reached m K KE (peer false c, .inl ())); iexact HR
  iintro HO
  iapply (Rounds.wp_wait_rest_token 𝒱₀ ER (twoRd m) (c : Thread nD τ) none (κ := K (c, .inl ()))
      (wpE_semWait_eq 𝒱₀ (c : Thread nD τ) none Set.univ) (Set.mem_univ _) 0 (O := ow c 0 0) (W := W) (R := 0) (m := 0) (T := ∅)
      (by rw [expect_bar]; decide)) $$ [Hc HO Hat]
  · isplitr; · iapply (rec_bar m K KE c); iexact HR
    isplitl [Hc]; · iexact Hc
    isplitl [HO]; · iexact HO
    isplitr
    · iapply (rec_wait m K KE c kind_bar 0 (by omega) (above_ow c 0 0 (fun _ => by show 1 < _; simp) (fun _ => by show 1 < _; simp))); iexact HR
    iexact Hat
  iintro ⟨HO, Hat, -, Hpay⟩
  ihave Hp := (Entails.of_eq (rest_bar m c)) $$ Hpay
  have e (s : Bool) : (FP s c 0 : sProp 𝕄) = iprop(PS s c 0 ∗ PS s c 1) := by
    unfold FP
    rw [bigSep_Ico_succ_bot (show 0 < 2 by omega), show Finset.Ico (0 + 1) 2 = {1} from rfl, bigSep_singleton]
  iapply (done c)
  iapply Hk
  isplitr [HO]
  · isplitl [Hp]
    · iapply (show iprop((PS false c 0 ∗ PS false c 1) ∗ PS true c 0 ∗ PS true c 1) ⊢ both (fun s => FP s c 0) from
        Entails.of_eq (by rw [← e false, ← e true]))
      iexact Hp
    iexact Hat
  iexists _; iexact HO

/-! ### The device's own rows, and the first products -/

section Setup
variable (m)

def iHeld : sProp 𝕄 := iprop((c : Thread nD τ).loc main_arg0 ↦[Finset.univ]{iqx} xBuf m c)
def iLent : sProp 𝕄 := iprop((xOwn c).view.loc (c : Thread nD τ) ↦[(xOwn c).view.set]{iqx} xBuf m c)
def iRest : sProp 𝕄 := iprop((c : Thread nD τ).loc main_arg0 ↦[Finset.univ \ (xOwn c).view.set]{iqx} xBuf m c)
theorem iSplit : (iHeld m c : sProp 𝕄) ⊣⊢ iprop(iLent m c ∗ iRest m c) := pointsTo_split_subset (Finset.subset_univ _)
abbrev iSem : sProp 𝕄 := semVal ((c : Thread nD τ), SemLoc.dma xiS) 0
def iFly : sProp 𝕄 :=
  iprop(Flight EC (c : Thread nD τ) (.dma xiS) 0 (xiM).view.dmaCredit
      iprop(owns (c : Thread nD τ) xiM fullShare (xOwnV m c) ∗ iLent m c) ∗ iRest m c)
/-- The device's own rows arrived. -/
def iHere : sProp 𝕄 := iprop(owns (c : Thread nD τ) xiM fullShare (xOwnV m c) ∗ iHeld m c ∗ iSem c)

variable {m}

theorem tr_iStart {h h' h''} : Tr m K KE c iprop((iHeld m c ∗ iSem c) ∗ anyOf c xiM)
    (Prog.lift (.enqueueDma (xOwn c) (.here xiM) (.dma xiS) h h' h'')) (iFly m c) := fun Kt => by
  unfold iFly
  simp only [Prog.lift]
  iintro ⟨#HR, ⟨⟨Hx, Hv⟩, Hd⟩, Hk⟩
  ihave Hx := (iSplit m c).1 $$ Hx
  icases Hx with ⟨Hl, Hr⟩
  iapply (copy c (xOwn c) xiM xiS iqx (xBuf m c) (by decide)) $$ [Hl Hd Hv]
  · isplitl [Hl]; · unfold iLent; iexact Hl
    isplitl [Hd] <;> iassumption
  iintro Hf
  iapply (done c)
  iapply Hk
  isplitl [Hf]; · unfold iLent; iexact Hf
  iexact Hr

theorem tr_iWait {O : Tal} (hO : Above 0 O) {h h'} :
    Tr m K KE c iprop(iFly m c ∗ Ow c O) (Prog.lift (.waitDma2 xiS (xOwn c) xiM h h')) iprop(iHere m c ∗ Ow c O) := fun Kt => by
  unfold iFly iHere
  simp only [Prog.lift]
  iintro ⟨#HR, ⟨⟨Hf, Hr⟩, HO⟩, Hk⟩
  iapply (land c K KE m (xOwn c) xiM xiS kind_xi hO) $$ [Hf HO]
  · isplitr; · iexact HR
    isplitl [Hf] <;> iassumption
  iintro ⟨⟨Hx, Hl⟩, Hv, HO⟩
  iapply (done c)
  iapply Hk
  isplitr [HO]
  · isplitl [Hx]; · iexact Hx
    isplitr [Hv]
    · iapply (iSplit m c).2
      isplitl [Hl] <;> iassumption
    iexact Hv
  iexact HO

/-- What a ring needs before the first products, and what it has after them. -/
def preX (s : Bool) (c : Dev nD) : sProp 𝕄 :=
  iprop(((xHeld m s c ∗ xSem s c) ∗ anyOf c (xsM s (par 0))) ∗ anyOf c (xsM s (par 1)) ∗ anyOf c (slotM s 0))

theorem tr_setup {O : Tal} (hO : Above 0 O) :
    Tr m K KE c iprop(both (fun s => preX (m := m) s c) ∗ ((iHeld m c ∗ iSem c) ∗ anyOf c xiM) ∗ Ow c O)
      (setup c (wH m false c) (wH m true c))
      iprop(both (fun s => iprop(owns (c : Thread nD τ) (slotM s (sl 0)) fullShare (acc m s c 0) ∗ XF m s c 0)) ∗ iHere m c ∗ Ow c O) := by
  unfold setup
  refine Tr.seq (Q := iprop(both (fun s => preX (m := m) s c) ∗ iFly m c ∗ Ow c O))
    ((Tr.frame iprop(both (fun s => preX (m := m) s c) ∗ Ow c O) (tr_iStart c)).conseq
      (by iintro ⟨H1, H2, H3⟩; isplitl [H2]; · iexact H2
          isplitl [H1] <;> iassumption)
      (by iintro ⟨H1, H2, H3⟩; isplitl [H2]; · iexact H2
          isplitl [H1] <;> iassumption)) ?_
  refine Tr.pairSeq (p := fun s => xStart s c 0) (Tr.pairF (p := fun s => xStart s c 0)
    (P := fun s => iprop((xHeld m s c ∗ xSem s c) ∗ anyOf c (xsM s (par 0)))) (Q := fun s => xFly m s c 0)
    (R := fun s => iprop(anyOf c (xsM s (par 1)) ∗ anyOf c (slotM s 0)))
    (Z₁ := iprop(iFly m c ∗ Ow c O)) (Z₂ := iprop(iFly m c ∗ Ow c O))
    (Tr.frame _ (tr_xStart false c 0)) (Tr.frame _ (tr_xStart true c 0))
    (fun s => by unfold preX; exact Entails.refl _) (fun s => Entails.refl _)) ?_
  refine Tr.seq (Q := iprop(both (fun s => iprop(xFly m s c 0 ∗ anyOf c (xsM s (par 1)) ∗ anyOf c (slotM s 0))) ∗ iHere m c ∗ Ow c O))
    ((Tr.frame (both (fun s => iprop(xFly m s c 0 ∗ anyOf c (xsM s (par 1)) ∗ anyOf c (slotM s 0)))) (tr_iWait c hO)).conseq
      sep_comm.1 sep_comm.2) ?_
  refine Tr.pairF (p := fun s => initP s (wH m s c))
    (P := fun s => anyOf c (slotM s 0)) (Q := fun s => owns (c : Thread nD τ) (slotM s 0) fullShare (acc m s c 0))
    (R := fun s => iprop(xFly m s c 0 ∗ anyOf c (xsM s (par 1))))
    (Z₁ := iprop(iHere m c ∗ Ow c O)) (Z₂ := iprop(iHere m c ∗ Ow c O))
    ((Tr.frame iprop((iHeld m c ∗ iSem c) ∗ Ow c O) (tr_init false c)).conseq ?_ ?_)
    ((Tr.frame iprop((iHeld m c ∗ iSem c) ∗ Ow c O) (tr_init true c)).conseq ?_ ?_)
    (fun s => by iintro ⟨H1, H2, H3⟩; iframe)
    (fun s => by unfold XF; rw [if_pos (by omega)]; exact Entails.refl _)
  all_goals unfold iHere
  all_goals first
    | (iintro ⟨H1, ⟨H2, H3, H4⟩, H5⟩; iframe)
    | (iintro ⟨⟨H1, H2⟩, ⟨H3, H4⟩, H5⟩; iframe)

/-- What follows the hops: the last copies into the result. -/
theorem tr_finish {O : Tal} (hO : Above 0 O) :
    Tr m K KE c iprop(both (fun s => RT m s c 30) ∗ Ow c O) (finish c) iprop(both (fun s => iprop(slR m s c 30 ∗ OB m s c 16)) ∗ Ow c O) :=
  Tr.pair (p := fun s => outWait s c 15) (tr_outWait false c 30 (by omega) hO) (tr_outWait true c 30 (by omega) hO)

/-! ### The whole body -/

variable (m)

/-- The protocol state ring `s` of device `c` starts from. -/
def gRing (s : Bool) (c : Dev nD) : sProp 𝕄 :=
  iprop(CW s c 0 ∗ SA s c 0 ∗ TK s c 0 ∗ RA s c 0 ∗ CI s c 0 ∗ dutyTok ER (barCell (peer (!s) c)) 0 (num s))
/-- The buffers of ring `s` of device `c`, and the counters of its own copies. -/
def bufs (s : Bool) (c : Dev nD) : sProp 𝕄 :=
  iprop((anyOf c (slotM s 0) ∗ anyOf c (slotM s 1) ∗ anyOf c (slotM s 2)) ∗ anyOf c (tmpM s) ∗ (anyOf c (xsM s 0) ∗ anyOf c (xsM s 1))
    ∗ (xHeld m s c ∗ xSem s c))
/-- The protocol's semaphores at zero. -/
def zRing (s : Bool) (c : Dev nD) : sProp 𝕄 :=
  iprop((semVal (sendCell s c 0) 0 ∗ semVal (sendCell s c 1) 0 ∗ semVal (sendCell s c 2) 0)
    ∗ (semVal (recvCell s c 0) 0 ∗ semVal (recvCell s c 1) 0 ∗ semVal (recvCell s c 2) 0) ∗ semVal (credCell s c) 0)

/-- What the body starts from, and what it ends with. -/
def bPre (c : Dev nD) : sProp 𝕄 :=
  iprop((both (fun s => iprop(gRing s c ∗ bufs m s c ∗ OB m s c 0))
      ∗ (atPos ER (barCell c) 0 ∅ 0 ∗ cred (tallyAt (barCell c) 0 2))
      ∗ ((iHeld m c ∗ iSem c) ∗ anyOf c xiM)) ∗ Ow c (O₀ c))
def bPost (c : Dev nD) : sProp 𝕄 :=
  iprop((both (fun s => iprop(zRing s c ∗ bufs m s c ∗ OB m s c 16)) ∗ semVal (barCell c) 0 ∗ ((iHeld m c ∗ iSem c) ∗ anyOf c xiM)) ∗ Ow c 0)

variable {m}

theorem close (κ : ℕ) (g : GSem nD τ sig) (R : ℕ) (hl : ∀ r, R ≤ r → (twoRd m).duties g r = ∅) :
    iprop(cellInv ER (twoRd m) κ g ∗ atPos ER g R ∅ 0) ⊢ |={Set.univ}=> semVal g 0 :=
  Rounds.cell_close ER (twoRd m) (Set.mem_univ κ) (fun h => h) (R := R) hl

theorem close_send (s : Bool) (n : ℕ) (i : Fin 3) (hi : sl n = i) (hn : n / 3 = 10) :
    iprop(recs m K KE ∗ SPos s c n) ⊢ |={Set.univ}=> semVal (sendCell s c i) 0 := by
  subst hi
  unfold SPos
  rw [hn]
  iintro ⟨#HR, Hat, -⟩
  iapply (close (m := m) (K (c, .inr (.inl (s, sl n)))) (sendCell s c (sl n)) 10 (later_send m s c (sl n)))
  isplitr; · iapply (rec_send m K KE s c (sl n)); iexact HR
  iexact Hat
theorem close_recv (s : Bool) (n : ℕ) (i : Fin 3) (hi : sl (n + 1) = i) (hn : n / 3 = 10) :
    iprop(recs m K KE ∗ RPos s c n) ⊢ |={Set.univ}=> semVal (recvCell s c i) 0 := by
  subst hi
  unfold RPos
  rw [hn]
  iintro ⟨#HR, Hat, -⟩
  iapply (close (m := m) (K (c, .inr (.inr (.inl (s, sl (n + 1)))))) (recvCell s c (sl (n + 1))) 10 (later_recv m s c (sl (n + 1))))
  isplitr; · iapply (rec_recv m K KE s c (sl (n + 1))); iexact HR
  iexact Hat
theorem close_cred (s : Bool) : iprop(recs m K KE ∗ CW s c 28) ⊢ |={Set.univ}=> semVal (credCell s c) 0 := by
  unfold CW
  iintro ⟨#HR, -, %T, %hT, Hat, -, -⟩
  obtain ⟨h1, h2⟩ := hT
  have hT : T = Finset.range 28 := Finset.eq_of_subset_of_card_le h1 (by rw [Finset.card_range]; exact h2)
  imod (fupd_skip ER (twoRd m) (show (twoRd m).duties (credCell s c) 0 ⊆ T from by rw [duties_cred, hT]) (expect_cred m s c).symm (Set.mem_univ (K (c, .inr (.inr (.inr s)))))) $$ [Hat] with ⟨Hat, -⟩
  · isplitr; · iapply (rec_cred m K KE s c); iexact HR
    iexact Hat
  iapply (close (m := m) (K (c, .inr (.inr (.inr s)))) (credCell s c) 1 (later_cred m s c))
  isplitr; · iapply (rec_cred m K KE s c); iexact HR
  iexact Hat
theorem close_bar : iprop(recs m K KE ∗ atPos ER (barCell c) 1 ∅ 0) ⊢ |={Set.univ}=> semVal (barCell c) 0 := by
  iintro ⟨#HR, Hat⟩
  iapply (close (m := m) (K (c, .inl ())) (barCell c) 1 (later_bar m c))
  isplitr; · iapply (rec_bar m K KE c); iexact HR
  iexact Hat

theorem close_ring (s : Bool) : iprop(recs m K KE ∗ CW s c 28 ∗ SA s c 30 ∗ RA s c 30) ⊢ |={Set.univ}=> zRing (F := F) s c := by
  unfold SA RA zRing
  iintro ⟨#HR, Hc, ⟨H0, H1, H2⟩, ⟨H3, H4, H5⟩, -⟩
  imod (close_cred (m := m) (K := K) (KE := KE) c s) $$ [Hc] with Hc
  · isplitr; · iexact HR
    iexact Hc
  imod (close_send (m := m) (K := K) (KE := KE) c s 30 0 rfl rfl) $$ [H0] with H0
  · isplitr; · iexact HR
    iexact H0
  imod (close_send (m := m) (K := K) (KE := KE) c s (30 + 1) 1 rfl rfl) $$ [H1] with H1
  · isplitr; · iexact HR
    iexact H1
  imod (close_send (m := m) (K := K) (KE := KE) c s (30 + 2) 2 rfl rfl) $$ [H2] with H2
  · isplitr; · iexact HR
    iexact H2
  imod (close_recv (m := m) (K := K) (KE := KE) c s 30 1 rfl rfl) $$ [H3] with H3
  · isplitr; · iexact HR
    iexact H3
  imod (close_recv (m := m) (K := K) (KE := KE) c s (30 + 1) 2 rfl rfl) $$ [H4] with H4
  · isplitr; · iexact HR
    iexact H4
  imod (close_recv (m := m) (K := K) (KE := KE) c s (30 + 2) 0 rfl rfl) $$ [H5] with H5
  · isplitr; · iexact HR
    iexact H5
  imodintro
  isplitl [H0 H1 H2]
  · isplitl [H0]; · iexact H0
    isplitl [H1] <;> iassumption
  isplitl [H3 H4 H5]
  · isplitl [H5]; · iexact H5
    isplitl [H3] <;> iassumption
  iexact Hc

/-- What a ring has at the end gives its buffers back. -/
theorem end_ring (s : Bool) : RS m s c 30 ⊢ iprop(RT m s c 30 ∗ (CW s c 28 ∗ SA s c 30 ∗ RA s c 30)
    ∗ (slL m s c 30 ∗ anyOf c (slotM s 1) ∗ anyOf c (slotM s 2)) ∗ anyOf c (tmpM s) ∗ (anyOf c (xsM s 0) ∗ anyOf c (xsM s 1))
    ∗ (xHeld m s c ∗ xSem s c)) := by
  unfold RS XF
  rw [if_neg (by omega)]
  have e : (LO s c 30 : sProp 𝕄) = iprop(anyOf c (slotM s 1) ∗ anyOf c (slotM s 2)) := by
    unfold LO
    rw [bigSep_Ico_succ_bot (show 28 < 30 by omega), show Finset.Ico (28 + 1) 30 = {29} from rfl, bigSep_singleton]
    rfl
  rw [e]
  iintro ⟨⟨H1, -⟩, H3, H4, -, ⟨⟨H5, H6, H7⟩, H8⟩, H9, H10, -, H11, H12⟩
  iframe

end Setup

end Ends

end Cert.KernelIdeal.Two

end
-- ==== Proof.Body.lean ====
/-
  The whole body on a device at a symbolic place: from the protocol's start and the buffers, to the buffers back, every
  semaphore at zero, and both rings' blocks of the result written.
-/
module

public import proofs.«01_k».proof.Proof.Hop

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable {m : (ℓ : Loc nD τ sig) → Buf (Elt F) ℓ} {K : Dev nD × CIx → ℕ} {KE : Bool × Dev nD → ℕ}
variable (c : Dev nD)

variable (m)
/-- What a ring keeps through the set-up, and what it hands the set-up. -/
def kRing (s : Bool) : sProp 𝕄 :=
  iprop((CW s c 0 ∗ FP s c 0) ∗ SA s c 0 ∗ TK s c 0 ∗ RA s c 0 ∗ CI s c 0 ∗ anyOf c (tmpM s) ∗ OB m s c 0)
/-- What a ring has left at the end besides its blocks of the result. -/
def eRing (s : Bool) : sProp 𝕄 :=
  iprop((CW s c 28 ∗ SA s c 30 ∗ RA s c 30)
    ∗ (slL m s c 30 ∗ anyOf c (slotM s 1) ∗ anyOf c (slotM s 2)) ∗ anyOf c (tmpM s) ∗ (anyOf c (xsM s 0) ∗ anyOf c (xsM s 1))
    ∗ (xHeld m s c ∗ xSem s c))
/-- What both rings share. -/
def common : sProp 𝕄 := iprop(atPos ER (barCell c) 1 ∅ 0 ∗ iHere m c)
variable {m}

theorem start_hops (s : Bool) :
    iprop((owns (c : Thread nD τ) (slotM s (sl 0)) fullShare (acc m s c 0) ∗ XF m s c 0) ∗ kRing m c s) ⊢ RS m s c 0 := by
  have e : (LO s c 0 : sProp 𝕄) = iprop(emp) := by unfold LO; rw [show Finset.Ico 28 0 = ∅ from rfl, bigSep_empty]; rfl
  unfold RS kRing RT
  rw [e, if_pos (by omega)]
  iintro ⟨⟨H0, H1⟩, ⟨H2, H3⟩, H4, H5, H6, H7, H8, H9⟩
  ihave ⟨Ha, Hb⟩ := (slLR m s c 0).2 $$ H0
  iframe
theorem end_hops (s : Bool) : RS m s c 30 ⊢ iprop(RT m s c 30 ∗ eRing m c s) := end_ring c s

/-- The set-up, the hops and the end. -/
theorem tr_rest : Tr m K KE c iprop((both (fun s => preX (m := m) s c) ∗ ((iHeld m c ∗ iSem c) ∗ anyOf c xiM) ∗ OW c 0 0)
      ∗ both (kRing m c) ∗ atPos ER (barCell c) 1 ∅ 0)
    (setup c (wH m false c) (wH m true c) >>= fun _ => hops c (wH m false c) (wH m true c) 30 0 >>= fun _ => finish c)
    (bPost m c) := by
  have h1 := Tr.frame iprop(both (kRing m c) ∗ atPos ER (barCell c) 1 ∅ 0)
    (tr_setup (m := m) (K := K) (KE := KE) c (O := ow c (fun _ => 0) fun _ => 0)
      (above_ow c _ _ (fun _ => by omega) (fun _ => by omega)))
  have h2 := Tr.frame (common m c) (tr_hops (m := m) (K := K) (KE := KE) c 30 0 (by omega))
  have e0 : ow c (fun _ => 0 + 30) (fun _ => 0 + 30) = 0 := ow_end c _ _ (fun _ => by omega) (fun _ => by omega)
  have h3 := Tr.frame iprop(both (eRing m c) ∗ common m c) (tr_finish (m := m) (K := K) (KE := KE) c (Above.zero 0))
  refine Tr.seq (h1.conseq (Entails.refl _) ?_) (Tr.seq (h2.conseq (Entails.refl _) ?_) (Tr.after c (h3.conseq (Entails.refl _) (Entails.refl _)) ?_))
  · iintro ⟨⟨⟨Hf, Ht⟩, Hi, HO⟩, ⟨Kf, Kt⟩, Hb⟩
    isplitr [Hb Hi]
    · isplitr [HO]
      · isplitl [Hf Kf]
        · iapply (start_hops (m := m) c false); isplitl [Hf] <;> iassumption
        · iapply (start_hops (m := m) c true); isplitl [Ht] <;> iassumption
      · iexact HO
    · unfold common; isplitl [Hb] <;> iassumption
  · iintro ⟨⟨⟨Hf, Ht⟩, HO⟩, HC⟩
    ihave HO := (Entails.of_eq (congrArg (Ow (F := F) c) e0)) $$ HO
    ihave ⟨Hf, Ef⟩ := (end_hops (m := m) c false) $$ Hf
    ihave ⟨Ht, Et⟩ := (end_hops (m := m) c true) $$ Ht
    unfold both
    iframe
  · have hend (s : Bool) : iprop(recs m K KE ∗ (slR m s c 30 ∗ OB m s c 16) ∗ eRing m c s) ⊢
        |={Set.univ}=> iprop(zRing s c ∗ bufs m s c ∗ OB m s c 16) := by
      unfold eRing bufs
      iintro ⟨#HR, ⟨H1, H2⟩, H3, ⟨H4, H5⟩, H6, H7, H8⟩
      imod (close_ring (m := m) (K := K) (KE := KE) c s) $$ [H3] with H3
      · isplitr; · iexact HR
        iexact H3
      imodintro
      ihave H1 := (slLR m s c 30).1 $$ [H1 H4]
      · isplitl [H4] <;> iassumption
      isplitl [H3]; · iexact H3
      isplitr [H2]
      · isplitl [H1 H5]
        · isplitl [H1]
          · iapply (anyOf_intro c (slotM s 0) (acc m s c 30)); iexact H1
          · iexact H5
        isplitl [H6]; · iexact H6
        isplitl [H7] <;> iassumption
      · iexact H2
    unfold common iHere bPost
    iintro ⟨#HR, ⟨⟨Hf, Ht⟩, HO⟩, ⟨Ef, Et⟩, Hb, Hx, Hh, Hs⟩
    imod (hend false) $$ [Hf Ef] with Hf
    · isplitr; · iexact HR
      isplitl [Hf] <;> iassumption
    imod (hend true) $$ [Ht Et] with Ht
    · isplitr; · iexact HR
      isplitl [Ht] <;> iassumption
    imod (close_bar (m := m) (K := K) (KE := KE) c) $$ [Hb] with Hb
    · isplitr; · iexact HR
      iexact Hb
    imodintro
    isplitr [HO]
    · isplitl [Hf Ht]
      · isplitl [Hf] <;> iassumption
      isplitl [Hb]; · iexact Hb
      isplitl [Hh Hs]
      · isplitl [Hh] <;> iassumption
      iapply (anyOf_intro c xiM (xOwnV m c)); iexact Hx
    · iexact HO

/-- The two halves of the block of w, as loaded. -/
theorem tr_loads (p : FVec F S512x2048 .f32 → FVec F S512x2048 .f32 → PM F PUnit) {P Q : sProp 𝕄}
    (h : Tr m K KE c P (p (wH m false c) (wH m true c)) Q) :
    Tr m K KE c iprop(owns (c : Thread nD τ) wM fullShare (wst m c) ∗ P)
      (do
        let va : Vec F S512x2048 .f32 ← Prog.lift (.load wM (Rect.unit (s := S512x4096) ![0, 0] S512x2048.size
          inb_S512x4096_S512x2048_0_0).toLoadRect (View.loadsAt_vmem h_S512x2048))
        let vb : Vec F S512x2048 .f32 ← Prog.lift (.load wM (Rect.unit (s := S512x4096) ![0, 2048] S512x2048.size
          inb_S512x4096_S512x2048_0_2048).toLoadRect (View.loadsAt_vmem h_S512x2048))
        p (k0_pay1 va) (k0_pay2 vb))
      iprop(owns (c : Thread nD τ) wM fullShare (wst m c) ∗ Q) := fun Kt => by
  simp only [Prog.lift, Prog.bind_op, Prog.bind_ret]
  unfold owns
  iintro ⟨#HR, ⟨⟨%f, %hf, Hw⟩, HP⟩, Hk⟩
  iapply (wp_load 𝒱₀ (c : Thread nD τ) none Set.univ (m := wM) (S := wM.view.set)
      (by rw [show wM.view.set = Finset.univ from View.set_whole _]; exact Finset.subset_univ _)) $$ [Hw]
  · iexact Hw
  iintro Hw
  iapply (wp_load 𝒱₀ (c : Thread nD τ) none Set.univ (m := wM) (S := wM.view.set)
      (by rw [show wM.view.set = Finset.univ from View.set_whole _]; exact Finset.subset_univ _)) $$ [Hw]
  · iexact Hw
  iintro Hw
  have e : f = wst m c := by rw [← hf]; rfl
  subst e
  iapply (h Kt)
  isplitr; · iexact HR
  isplitl [HP]; · iexact HP
  iintro HQ
  iapply Hk
  isplitl [Hw]
  · iexists (wst m c); isplitr; · ipureintro; exact hf
    iexact Hw
  iexact HQ

/-- The body. -/
theorem sound : Tr m K KE c iprop(owns (c : Thread nD τ) wM fullShare (wst m c) ∗ bPre m c) bodyP
    iprop(owns (c : Thread nD τ) wM fullShare (wst m c) ∗ bPost m c) := fun Kt => by
  have h1 := Tr.frame iprop(owns (c : Thread nD τ) wM fullShare (wst m c) ∗ both (fun s => iprop((CW s c 0 ∗ SA s c 0 ∗ TK s c 0 ∗ RA s c 0 ∗ CI s c 0)
      ∗ preX (m := m) s c ∗ anyOf c (tmpM s) ∗ OB m s c 0)) ∗ (iHeld m c ∗ iSem c) ∗ anyOf c xiM) (tr_hello (m := m) (K := K) (KE := KE) c)
  have h2 := tr_loads (m := m) (K := K) (KE := KE) c (fun wa wb => setup c wa wb >>= fun _ => hops c wa wb 30 0 >>= fun _ => finish c)
    (tr_rest (m := m) (K := K) (KE := KE) c)
  have h3 := Tr.seq (h1.conseq (P' := iprop(owns (c : Thread nD τ) wM fullShare (wst m c) ∗ bPre m c)) ?_ ?_) h2
  · unfold WP bodyP
    rw [Prog.bind_lift, wp_deviceId]
    have h4 := h3 Kt
    unfold WP at h4
    with_reducible exact h4
  · unfold bPre gRing bufs preX
    iintro ⟨Hw, ⟨⟨⟨⟨F1, F2, F3, F4, F5, F6⟩, ⟨⟨F7, F8, F9⟩, F10, ⟨F11, F12⟩, F13⟩, F14⟩,
      ⟨T1, T2, T3, T4, T5, T6⟩, ⟨⟨T7, T8, T9⟩, T10, ⟨T11, T12⟩, T13⟩, T14⟩, ⟨B1, B2⟩, HI⟩, HO⟩
    isplitl [F6 F8 F9 T6 T8 T9 B1 B2 HO]
    · isplitr [HO]
      · isplitl [F6 F8 F9 T6 T8 T9]
        · isplitl [F6 F8 F9]
          · isplitl [F8 F9]
            · unfold first; isplitl [F8]; · iexact F8
              iexact F9
            · iexact F6
          · isplitl [T8 T9]
            · unfold first; isplitl [T8]; · iexact T8
              iexact T9
            · iexact T6
        · isplitl [B1] <;> iassumption
      · iexact HO
    isplitl [Hw]; · iexact Hw
    isplitr [HI]
    · isplitl [F1 F2 F3 F4 F5 F7 F10 F11 F12 F13 F14]
      · isplitl [F1 F2 F3 F4 F5]
        · iframe
        isplitl [F7 F11 F12 F13]
        · isplitl [F11 F13]
          · isplitl [F13]; · iexact F13
            iexact F11
          · isplitl [F12]; · iexact F12
            iexact F7
        · isplitl [F10] <;> iassumption
      · isplitl [T1 T2 T3 T4 T5]
        · iframe
        isplitl [T7 T11 T12 T13]
        · isplitl [T11 T13]
          · isplitl [T13]; · iexact T13
            iexact T11
          · isplitl [T12]; · iexact T12
            iexact T7
        · isplitl [T10] <;> iassumption
    · iexact HI
  · have hk (s : Bool) : iprop(FP s c 0 ∗ (CW s c 0 ∗ SA s c 0 ∗ TK s c 0 ∗ RA s c 0 ∗ CI s c 0) ∗ anyOf c (tmpM s) ∗ OB m s c 0) ⊢ kRing m c s := by
      unfold kRing
      iintro ⟨P, ⟨F1, F2, F3, F4, F5⟩, F7, F8⟩
      isplitl [P F1]; · isplitl [F1] <;> iassumption
      isplitl [F2]; · iexact F2
      isplitl [F3]; · iexact F3
      isplitl [F4]; · iexact F4
      isplitl [F5]; · iexact F5
      isplitl [F7] <;> iassumption
    iintro ⟨⟨⟨⟨P1, P2⟩, Hb⟩, HO⟩, Hw, ⟨⟨F1, F6, F7⟩, T1, T6, T7⟩, HI⟩
    isplitl [Hw]; · iexact Hw
    isplitl [F6 T6 HI HO]
    · isplitl [F6 T6]
      · isplitl [F6] <;> iassumption
      isplitl [HI] <;> iassumption
    · isplitr [Hb]
      · isplitl [P1 F1 F7]
        · iapply (hk false)
          isplitl [P1]; · iexact P1
          isplitl [F1] <;> iassumption
        · iapply (hk true)
          isplitl [P2]; · iexact P2
          isplitl [T1] <;> iassumption
      · iexact Hb

end Cert.KernelIdeal.Two

end
-- ==== Proof.Ghost.lean ====
/-
  The protocol's launch: the launch element's parts, the semaphores' invariants and the escrows of the credits' slots
  allocated from the counters at zero, the rights dealt to the devices that pay with them, and the credits.
-/
module

public import proofs.«01_k».proof.Proof.Body
public import Idealize.ShloMosaic.Lib.Ring

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig ℕ (Elt F) ℕ UU ℕ

variable (m : (ℓ : Loc nD τ sig) → Buf (Elt F) ℓ)

/-! ## The cells and the tokens -/

theorem kind_csem (k : CIx) : kind (csem k) = match k with
    | .inl _ => .bar | .inr (.inl p) => .snd p.1 p.2 | .inr (.inr (.inl p)) => .rcv p.1 p.2 | .inr (.inr (.inr s)) => .crd s := by
  rcases k with _ | p | p | s
  · exact kind_bar
  · exact kind_snd _ _
  · exact kind_rcv _ _
  · exact kind_crd _

theorem kcell_injective : Function.Injective kcell := by
  rintro ⟨c, k⟩ ⟨c', k'⟩ h
  have h1 : c = c' := congrArg (fun g : GSem nD τ sig => g.1.1) h
  have h2 : kind (csem k) = kind (csem k') := congrArg (fun g : GSem nD τ sig => kind g.2) h
  rw [kind_csem, kind_csem] at h2
  subst h1
  rcases k with ⟨⟩ | ⟨s, i⟩ | ⟨s, i⟩ | s <;> rcases k' with ⟨⟩ | ⟨s', i'⟩ | ⟨s', i'⟩ | s' <;> simp at h2 ⊢ <;> exact h2
def ringCells : Finset (GSem nD τ sig) := Finset.univ.map ⟨kcell, kcell_injective⟩

/-- Which payments of a ring a device makes: its handshake signal, its sends, their arrivals, its credits. -/
abbrev TIx : Type := Unit ⊕ (Fin 30 ⊕ (Fin 30 ⊕ Fin 28))
/-- The token device `c` pays with. -/
def tokOf (x : Dev nD × Bool × TIx) : GSem nD τ sig × ℕ × ℕ :=
  match x.2.2 with
  | .inl _ => (barCell (peer (!x.2.1) x.1), 0, num x.2.1)
  | .inr (.inl n) => (sendCell x.2.1 x.1 (sl n.val), n.val / 3, 0)
  | .inr (.inr (.inl n)) => (recvCell x.2.1 (peer x.2.1 x.1) (sl (n.val + 1)), n.val / 3, 0)
  | .inr (.inr (.inr j)) => (credCell x.2.1 (peer (!x.2.1) x.1), 0, j.val)

theorem peer_inj (s : Bool) {c c' : Dev nD} (h : peer s c = peer s c') : c = c' := (ring s).injective h
theorem num_inj {s s' : Bool} (h : num s = num s') : s = s' := by cases s <;> cases s' <;> first | rfl | exact absurd h (by decide)
theorem sl_div {n n' : ℕ} (h : sl n = sl n') (h' : n / 3 = n' / 3) : n = n' := by
  have : n % 3 = n' % 3 := congrArg Fin.val h
  omega

theorem tokOf_injective : Function.Injective tokOf := by
  rintro ⟨c, s, j⟩ ⟨c', s', j'⟩ h
  have hk : kind (tokOf (c, s, j)).1.2 = kind (tokOf (c', s', j')).1.2 := by rw [h]
  have hd : (tokOf (c, s, j)).1.1.1 = (tokOf (c', s', j')).1.1.1 := by rw [h]
  have hr : (tokOf (c, s, j)).2 = (tokOf (c', s', j')).2 := by rw [h]
  rcases j with ⟨⟩ | n | n | n <;> rcases j' with ⟨⟩ | n' | n' | n' <;>
    simp only [tokOf, kind_bar, kind_snd, kind_rcv, kind_crd, CK.snd.injEq, CK.rcv.injEq, CK.crd.injEq, Prod.mk.injEq, reduceCtorEq] at hk hd hr
  · have := num_inj hr.2; subst this; rw [peer_inj _ hd]
  · obtain ⟨rfl, hs⟩ := hk
    rw [show c = c' from hd, Fin.ext (sl_div hs hr.1)]
  · obtain ⟨rfl, hs⟩ := hk
    have e := sl_div (n := n.val + 1) (n' := n'.val + 1)
    have hm : (n.val + 1) % 3 = (n'.val + 1) % 3 := congrArg Fin.val hs
    rw [peer_inj s hd, Fin.ext (show n.val = n'.val by have := hr.1; omega)]
  · subst hk
    rw [peer_inj _ hd, Fin.ext hr.2]
def ringToks : Finset (GSem nD τ sig × ℕ × ℕ) := Finset.univ.map ⟨tokOf, tokOf_injective⟩

theorem bigSep_bool {M : Type} [URA M] (Φ : Bool → sProp M) : bigSep Finset.univ Φ = iprop(Φ false ∗ Φ true) :=
  bigSep_univ_eq_bigSepL [false, true] (by decide) (by decide) Φ
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ
theorem bigSep_one {M : Type} [URA M] (Φ : Unit → sProp M) : bigSep Finset.univ Φ = Φ () :=
  bigSep_univ_eq_bigSepL [()] (by decide) (by decide) Φ
theorem bigSep_fin {M : Type} [URA M] (n : ℕ) (Ψ : ℕ → sProp M) : (bigSep Finset.univ fun i : Fin n => Ψ i.val) = bigSep (Finset.Ico 0 n) Ψ := by
  rw [← Finset.range_eq_Ico]
  exact Ring.bigSep_fin_eq_range n _ Ψ fun _ _ => rfl

/-- A device's positions and marks over the semaphores, laid out. -/
theorem bigSep_cix {M : Type} [URA M] (Φ : CIx → sProp M) : bigSep Finset.univ Φ = iprop(Φ (.inl ())
    ∗ (bigSep Finset.univ fun s : Bool => iprop((Φ (.inr (.inl (s, 0))) ∗ Φ (.inr (.inl (s, 1))) ∗ Φ (.inr (.inl (s, 2))))
      ∗ (Φ (.inr (.inr (.inl (s, 0)))) ∗ Φ (.inr (.inr (.inl (s, 1)))) ∗ Φ (.inr (.inr (.inl (s, 2)))))
      ∗ Φ (.inr (.inr (.inr s)))))) := by
  have hs (Ψ : Bool × Fin 3 → sProp M) : bigSep Finset.univ Ψ = bigSep Finset.univ fun s : Bool => iprop(Ψ (s, 0) ∗ Ψ (s, 1) ∗ Ψ (s, 2)) := by
    rw [bigSep_univ_prod]; exact bigSep_congr fun s _ => bigSep_three _
  rw [bigSep_univ_sum, bigSep_one, bigSep_univ_sum, bigSep_univ_sum, hs, hs, ← bigSep_sep, ← bigSep_sep]
  rfl

theorem sep_mid {M : Type} [URA M] (A B C D : sProp M) : iprop(A ∗ B ∗ C ∗ D) = iprop(A ∗ (B ∗ C) ∗ D) := by
  refine BI.equiv_iff.mp ⟨?_, ?_⟩
  · show iprop(A ∗ B ∗ C ∗ D) ⊢ iprop(A ∗ (B ∗ C) ∗ D)
    iintro ⟨H1, H2, H3, H4⟩; iframe
  · show iprop(A ∗ (B ∗ C) ∗ D) ⊢ iprop(A ∗ B ∗ C ∗ D)
    iintro ⟨H1, ⟨H2, H3⟩, H4⟩; iframe

/-- The tokens a ring of a device pays with. -/
def toks (s : Bool) (c : Dev nD) : sProp 𝕄 :=
  iprop(dutyTok ER (barCell (peer (!s) c)) 0 (num s) ∗ TK s c 0 ∗ bigSep (Finset.Ico 0 28) fun i => dutyTok ER (credCell s (peer (!s) c)) 0 i)

theorem toks_eq : bigSep ringToks (fun x => (dutyTok ER x.1 x.2.1 x.2.2 : sProp 𝕄))
    = bigSep Finset.univ fun c : Dev nD => bigSep Finset.univ fun s : Bool => toks s c := by
  unfold ringToks
  rw [bigSep_map, bigSep_univ_prod]
  refine bigSep_congr fun c _ => ?_
  rw [bigSep_univ_prod]
  refine bigSep_congr fun s _ => ?_
  unfold toks TK
  rw [bigSep_univ_sum, bigSep_univ_sum, bigSep_univ_sum, bigSep_one, bigSep_sep',
    ← bigSep_fin 30 (fun i => dutyTok ER (sendCell s c (sl i)) (i / 3) 0), ← bigSep_fin 30 (fun i => dutyTok ER (recvCell s (peer s c) (sl (i + 1))) (i / 3) 0),
    ← bigSep_fin 28 (fun i => dutyTok ER (credCell s (peer (!s) c)) 0 i)]
  exact sep_mid _ _ _ _

/-! ## The launch element -/

def u₀ : UU :=
  (initOf (Pipeline.cells cfgs cellOf_inj) (Pipeline.launchToks cfgs cellOf_inj), (initOf ringCells ringToks,
    (initOf (Finset.univ : Finset (Bool × Bool × Dev nD)) (∅ : Finset ((Bool × Bool × Dev nD) × ℕ × Unit)), (1 : Counters))))

/-- The state of a ring's credit counts, and the device's positions on them. -/
def esc0 (s : Bool) (c : Dev nD) : sProp 𝕄 := iprop(initState EQ (iq s c) ∗ initState EQ (tq s c))
def escAt (s : Bool) (c : Dev nD) : sProp 𝕄 := iprop(atPos EQ (iq s c) 0 ∅ 0 ∗ atPos EQ (tq s c) 0 ∅ 0)

/-- What the launch element deals a device. -/
def G (c : Dev nD) : sProp 𝕄 :=
  iprop((bigSep Finset.univ fun k : CIx => roundState ER (twoRd m) (kcell (c, k)) 0)
    ∗ (bigSep Finset.univ fun k : CIx => iprop(atPos ER (kcell (c, k)) 0 ∅ 0 ∗ reached ER (kcell (c, k)) 0))
    ∗ (bigSep Finset.univ fun s : Bool => toks s c)
    ∗ (bigSep Finset.univ fun s : Bool => iprop(esc0 s c ∗ escAt s c)))

theorem fund_ring : BI.own (ER (initOf ringCells ringToks)) ⊢ (|==> (
      (bigSep Finset.univ fun c : Dev nD => bigSep Finset.univ fun k : CIx => roundState ER (twoRd m) (kcell (c, k)) 0)
    ∗ (bigSep Finset.univ fun c : Dev nD => bigSep Finset.univ fun k : CIx => iprop(atPos ER (kcell (c, k)) 0 ∅ 0 ∗ reached ER (kcell (c, k)) 0))
    ∗ (bigSep Finset.univ fun c : Dev nD => bigSep Finset.univ fun s : Bool => toks s c)) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  iintro HX
  imod (Rounds.fund ER (twoRd m) ringCells ringToks) $$ HX with ⟨Hst, Hr, Hat, Htok⟩
  imodintro
  ihave Hst := (Entails.of_eq (hX fun g => roundState ER (twoRd m) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  simp only [bigSep_sep']
  isplitl [Hst]; · iexact Hst
  isplitl [Hat Hr]
  · isplitl [Hat] <;> iassumption
  iexact Htok

/-- The counts, laid out device by device. -/
theorem bigSep_qix {M : Type} [URA M] (Φ : Bool × Bool × Dev nD → sProp M) : bigSep Finset.univ Φ
    = bigSep Finset.univ fun c : Dev nD => bigSep Finset.univ fun s : Bool => iprop(Φ (false, s, c) ∗ Φ (true, s, c)) := by
  rw [bigSep_univ_prod, bigSep_bool]
  simp only [bigSep_sep']
  rw [bigSep_univ_prod, bigSep_univ_prod (fun x : Bool × Dev nD => Φ (true, x)), bigSep_univ_comm,
    bigSep_univ_comm (fun (s : Bool) (c : Dev nD) => Φ (true, s, c))]

theorem fund_esc : BI.own (EQ (initOf (Finset.univ : Finset (Bool × Bool × Dev nD)) (∅ : Finset ((Bool × Bool × Dev nD) × ℕ × Unit)))) ⊢
    (|==> (bigSep Finset.univ fun c : Dev nD => bigSep Finset.univ fun s : Bool => iprop(esc0 s c ∗ escAt s c)) : sProp 𝕄) := by
  iintro HX
  imod (Rounds.fund_init EQ (Finset.univ : Finset (Bool × Bool × Dev nD)) ∅) $$ HX with ⟨Hst, -, Hat, -⟩
  imodintro
  ihave Hst := (Entails.of_eq (bigSep_qix fun q => initState EQ q)) $$ Hst
  ihave Hat := (Entails.of_eq (bigSep_qix fun q => atPos EQ q 0 ∅ 0)) $$ Hat
  iapply (Entails.of_eq (show iprop((bigSep Finset.univ fun c : Dev nD => bigSep Finset.univ fun s : Bool => esc0 s c)
      ∗ (bigSep Finset.univ fun c : Dev nD => bigSep Finset.univ fun s : Bool => escAt s c))
    = (bigSep Finset.univ fun c : Dev nD => bigSep Finset.univ fun s : Bool => iprop(esc0 s c ∗ escAt s c) : sProp 𝕄) from by simp only [bigSep_sep']))
  isplitl [Hst]
  · iexact Hst
  · iexact Hat

/-- The launch element's protocol part, split. -/
theorem own_two (a : UB) (b : UQ) (d : Counters) : (BI.own (embR (a, (b, d))) : sProp 𝕄) ⊢ iprop(BI.own (ER a) ∗ BI.own (EQ b)) := by
  unfold ER EQ
  iintro H
  ihave ⟨H1, H2⟩ := (own_pair_emb (embR : Emb (UB × (UQ × Counters)) 𝕄) a (b, d)) $$ H
  ihave ⟨H2, -⟩ := (own_pair_emb ((Emb.inr : Emb (UQ × Counters) (UB × (UQ × Counters))).trans (embR : Emb (UB × (UQ × Counters)) 𝕄)) b d) $$ H2
  isplitl [H1]
  · iexact H1
  · iexact H2

theorem fund_G : (BI.own (embR (initOf ringCells ringToks,
    (initOf (Finset.univ : Finset (Bool × Bool × Dev nD)) (∅ : Finset ((Bool × Bool × Dev nD) × ℕ × Unit)), (1 : Counters)))) : sProp 𝕄)
    ⊢ |==> bigSep Finset.univ (G m) := by
  iintro H
  ihave ⟨H1, H2⟩ := (own_two _ _ _) $$ H
  imod (fund_ring m) $$ H1 with ⟨H1, H3, H4⟩
  imod fund_esc $$ H2 with H2
  imodintro
  unfold G
  simp only [bigSep_sep']
  isplitl [H1]; · iexact H1
  isplitl [H3]; · iexact H3
  isplitl [H4]; · iexact H4
  iexact H2

/-! ## The counters at zero -/

/-- The launch's own counters: every semaphore of the kernel but the staging one and the handshake's. -/
abbrev osem : Fin 19 → SemLoc sig :=
  ![.dma (sendS false 0), .dma (sendS false 1), .dma (sendS false 2),
    .dma (recvS false 0), .dma (recvS false 1), .dma (recvS false 2), .reg (credS false),
    .dma (sendS true 0), .dma (sendS true 1), .dma (sendS true 2),
    .dma (recvS true 0), .dma (recvS true 1), .dma (recvS true 2), .reg (credS true),
    .dma xiS, .dma (xS false), .dma (xS true), .dma (outS false), .dma (outS true)]

/-- The counters of the device's own copies. -/
def spare (c : Dev nD) : sProp 𝕄 := iprop(iSem c ∗ (xSem false c ∗ xSem true c) ∗ (oSem false c ∗ oSem true c))

theorem ownSemFacts : Pipeline.OwnSemFacts cfg0.spec osem := by decide

abbrev own0 (c : Dev nD) : sProp 𝕄 := Pipeline.ownSems0 (Ix := ℕ) (Name := ℕ) (U := UU) (Lvl := ℕ) (Val := Elt F) (τ := τ) osem c

theorem own0_eq (c : Dev nD) : (own0 c : sProp 𝕄) ⊣⊢ iprop(both (fun s => zRing s c) ∗ spare c) := by
  unfold own0
  rw [Pipeline.ownSems0_eq_of_list c osem [0, 1, 2, 3, 4, 5, 6, 7, 8, 9, 10, 11, 12, 13, 14, 15, 16, 17, 18] (by decide) (by decide)]
  unfold zRing spare
  constructor
  · show iprop(semVal (sendCell false c 0) 0 ∗ semVal (sendCell false c 1) 0 ∗ semVal (sendCell false c 2) 0
      ∗ semVal (recvCell false c 0) 0 ∗ semVal (recvCell false c 1) 0 ∗ semVal (recvCell false c 2) 0 ∗ semVal (credCell false c) 0
      ∗ semVal (sendCell true c 0) 0 ∗ semVal (sendCell true c 1) 0 ∗ semVal (sendCell true c 2) 0
      ∗ semVal (recvCell true c 0) 0 ∗ semVal (recvCell true c 1) 0 ∗ semVal (recvCell true c 2) 0 ∗ semVal (credCell true c) 0
      ∗ iSem c ∗ xSem false c ∗ xSem true c ∗ oSem false c ∗ oSem true c) ⊢ _
    iintro ⟨H0, H1, H2, H3, H4, H5, H6, H7, H8, H9, H10, H11, H12, H13, H14, H15, H16, H17, H18⟩
    isplitr [H14 H15 H16 H17 H18]
    · isplitl [H0 H1 H2 H3 H4 H5 H6]
      · isplitl [H0 H1 H2]; · iframe
        isplitl [H3 H4 H5]; · iframe
        iexact H6
      · isplitl [H7 H8 H9]; · iframe
        isplitl [H10 H11 H12]; · iframe
        iexact H13
    · iframe
  · show _ ⊢ iprop(semVal (sendCell false c 0) 0 ∗ semVal (sendCell false c 1) 0 ∗ semVal (sendCell false c 2) 0
      ∗ semVal (recvCell false c 0) 0 ∗ semVal (recvCell false c 1) 0 ∗ semVal (recvCell false c 2) 0 ∗ semVal (credCell false c) 0
      ∗ semVal (sendCell true c 0) 0 ∗ semVal (sendCell true c 1) 0 ∗ semVal (sendCell true c 2) 0
      ∗ semVal (recvCell true c 0) 0 ∗ semVal (recvCell true c 1) 0 ∗ semVal (recvCell true c 2) 0 ∗ semVal (credCell true c) 0
      ∗ iSem c ∗ xSem false c ∗ xSem true c ∗ oSem false c ∗ oSem true c)
    iintro ⟨⟨⟨⟨H0, H1, H2⟩, ⟨H3, H4, H5⟩, H6⟩, ⟨H7, H8, H9⟩, ⟨H10, H11, H12⟩, H13⟩, H14, ⟨H15, H16⟩, H17, H18⟩
    iframe
theorem un0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : iprop(own0 c ∗ unscopedSems0 c)
    ⊢ (iprop((bigSep Finset.univ fun k : CIx => semVal (kcell (c, k)) 0) ∗ spare c) : sProp 𝕄) := by
  rw [un0_eq, bigSep_cix, bigSep_bool]
  iintro ⟨Ho, Hb⟩
  ihave ⟨⟨Hf, Ht⟩, Hs⟩ := (own0_eq c).1 $$ Ho
  unfold zRing
  isplitr [Hs]
  · isplitl [Hb]; · iexact Hb
    isplitl [Hf]
    · iexact Hf
    · iexact Ht
  iexact Hs

/-! ## The invariants allocated -/

theorem esc_intro (s : Bool) (c : Dev nD) : esc0 s c ⊢ (escB s c : sProp 𝕄) := by
  unfold esc0 escB initState
  iintro ⟨⟨H1, -⟩, H2, -⟩
  iexists 0, 0
  isplitr; · ipureintro; exact le_refl _
  isplitl [H1]; · iexact H1
  isplitl [H2]; · iexact H2
  rw [Finset.Ico_self, bigSep_empty]
  iempintro

/-- A device's part once its invariants are allocated. -/
def alloced (c : Dev nD) : sProp 𝕄 :=
  iprop((bigSep Finset.univ fun k : CIx => iprop(∃ κ : ℕ, cellInv ER (twoRd m) κ (kcell (c, k))))
    ∗ (bigSep Finset.univ fun s : Bool => iprop(∃ κ : ℕ, inv κ (escB s c)))
    ∗ (bigSep Finset.univ fun k : CIx => iprop(atPos ER (kcell (c, k)) 0 ∅ 0 ∗ reached ER (kcell (c, k)) 0))
    ∗ (bigSep Finset.univ fun s : Bool => toks s c)
    ∗ (bigSep Finset.univ fun s : Bool => escAt s c)
    ∗ spare c)

theorem core_alloc (c : Dev nD) : iprop(own0 c ∗ unscopedSems0 c ∗ G m c) ⊢ |={Set.univ}=> alloced m c := by
  unfold G alloced
  simp only [bigSep_sep']
  iintro ⟨Hos, Hus, Hst, Hat, Htok, He, Hp⟩
  ihave ⟨Hv, Hs⟩ := (sems_eq (F := F) c) $$ [Hos Hus]
  · isplitl [Hos] <;> iassumption
  imod (show iprop((bigSep Finset.univ fun k : CIx => semVal (kcell (c, k)) 0) ∗ bigSep Finset.univ fun k : CIx => roundState ER (twoRd m) (kcell (c, k)) 0)
      ⊢ (|={Set.univ}=> bigSep Finset.univ fun k => iprop(∃ κ : ℕ, cellInv ER (twoRd m) κ (kcell (c, k))) : sProp 𝕄) from by
        rw [← bigSep_sep']
        exact (bigSep_mono fun k _ => (Rounds.body_intro ER (twoRd m) (kcell (c, k))).trans inv_alloc).trans (bigSep_fupd _ _)) $$ [Hv Hst] with Hinv
  · isplitl [Hv] <;> iassumption
  imod (show (bigSep Finset.univ fun s : Bool => esc0 s c) ⊢ (|={Set.univ}=> bigSep Finset.univ fun s : Bool => iprop(∃ κ : ℕ, inv κ (escB s c)) : sProp 𝕄) from
      (bigSep_mono fun s _ => (esc_intro s c).trans inv_alloc).trans (bigSep_fupd _ _)) $$ He with Hesc
  imodintro
  isplitl [Hinv]; · iexact Hinv
  isplitl [Hesc]; · iexact Hesc
  isplitl [Hat]; · iexact Hat
  isplitl [Htok]; · iexact Htok
  isplitl [Hp]; · iexact Hp
  iexact Hs

/-! ## The rights dealt -/

/-- What every device knows but the levels. -/
def recs0 (K : Dev nD × CIx → ℕ) (KE : Bool × Dev nD → ℕ) : sProp 𝕄 :=
  iprop((bigSep Finset.univ fun p : Dev nD × CIx => cellInv ER (twoRd m) (K p) (kcell p))
    ∗ (bigSep Finset.univ fun p : Dev nD × CIx => reached ER (kcell p) 0)
    ∗ (bigSep Finset.univ fun q : Bool × Dev nD => inv (KE q) (escB q.1 q.2)))
instance recs0_persistent (K : Dev nD × CIx → ℕ) (KE : Bool × Dev nD → ℕ) : BI.Persistent (recs0 m K KE) := by
  unfold recs0; infer_instance

/-- What stays with a device. -/
def lin (c : Dev nD) : sProp 𝕄 :=
  iprop((bigSep Finset.univ fun k : CIx => atPos ER (kcell (c, k)) 0 ∅ 0) ∗ (bigSep Finset.univ fun s : Bool => toks s c)
    ∗ (bigSep Finset.univ fun s : Bool => iprop(atPos EQ (iq s (peer (!s) c)) 0 ∅ 0 ∗ atPos EQ (tq s c) 0 ∅ 0)) ∗ spare c)
/-- What the launch makes of its element. -/
def G' (c : Dev nD) : sProp 𝕄 := iprop(∃ K KE, recs0 m K KE ∗ lin c)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The positions on the counts of signalled credits, dealt to the devices that signal them. -/
theorem esc_around : (bigSep Finset.univ fun c : Dev nD => bigSep Finset.univ fun s : Bool => (escAt s c : sProp 𝕄))
    = bigSep Finset.univ fun c : Dev nD => bigSep Finset.univ fun s : Bool => iprop(atPos EQ (iq s (peer (!s) c)) 0 ∅ 0 ∗ atPos EQ (tq s c) 0 ∅ 0) := by
  have e (s : Bool) : (bigSep Finset.univ fun c : Dev nD => (atPos EQ (iq s c) 0 ∅ 0 : sProp 𝕄))
      = bigSep Finset.univ fun c : Dev nD => atPos EQ (iq s (peer (!s) c)) 0 ∅ 0 :=
    bigSep_univ_equiv (ring (!s)) _
  unfold escAt
  rw [bigSep_univ_comm, bigSep_univ_comm (fun (c : Dev nD) (s : Bool) => iprop(atPos EQ (iq s (peer (!s) c)) 0 ∅ 0 ∗ atPos EQ (tq s c) 0 ∅ 0))]
  refine bigSep_congr fun s _ => ?_
  rw [bigSep_sep', bigSep_sep', e]

theorem regroup : bigSep Finset.univ (alloced m) ⊢ bigSep Finset.univ (G' m) := by
  have h0 : bigSep Finset.univ (alloced m) = iprop(
      (bigSep Finset.univ fun p : Dev nD × CIx => iprop(∃ κ : ℕ, cellInv ER (twoRd m) κ (kcell p)))
    ∗ (bigSep Finset.univ fun q : Bool × Dev nD => iprop(∃ κ : ℕ, inv κ (escB q.1 q.2)))
    ∗ ((bigSep Finset.univ fun c : Dev nD => bigSep Finset.univ fun k : CIx => atPos ER (kcell (c, k)) 0 ∅ 0)
      ∗ (bigSep Finset.univ fun p : Dev nD × CIx => reached ER (kcell p) 0))
    ∗ (bigSep Finset.univ fun c : Dev nD => bigSep Finset.univ fun s : Bool => toks s c)
    ∗ (bigSep Finset.univ fun c : Dev nD => bigSep Finset.univ fun s : Bool => iprop(atPos EQ (iq s (peer (!s) c)) 0 ∅ 0 ∗ atPos EQ (tq s c) 0 ∅ 0))
    ∗ bigSep Finset.univ fun c : Dev nD => spare c) := by
    unfold alloced
    rw [bigSep_sep', bigSep_sep', bigSep_sep', bigSep_sep', bigSep_sep', esc_around,
      bigSep_univ_prod (fun p : Dev nD × CIx => iprop(∃ κ : ℕ, cellInv ER (twoRd m) κ (kcell p))),
      bigSep_univ_prod (fun q : Bool × Dev nD => iprop(∃ κ : ℕ, inv κ (escB q.1 q.2))),
      bigSep_univ_prod (fun p : Dev nD × CIx => reached ER (kcell p) 0), ← bigSep_sep',
      bigSep_univ_comm (fun (c : Dev nD) (s : Bool) => iprop(∃ κ : ℕ, inv κ (escB s c)))]
    simp only [bigSep_sep']
  rw [h0]
  iintro ⟨HI, HE, ⟨Hat, #HR⟩, Htok, He, Hs⟩
  ihave HK := (BI.bigSep_exists_pi Finset.univ (fun (p : Dev nD × CIx) (κ : ℕ) => (cellInv ER (twoRd m) κ (kcell p) : sProp 𝕄))) $$ HI
  icases HK with ⟨%K, #HI⟩
  ihave HK := (BI.bigSep_exists_pi Finset.univ (fun (q : Bool × Dev nD) (κ : ℕ) => (inv κ (escB q.1 q.2) : sProp 𝕄))) $$ HE
  icases HK with ⟨%KE, #HE⟩
  iapply (bigSep_with (R := recs0 m K KE) (Φ := lin) fun c _ => show iprop(recs0 m K KE ∗ lin c) ⊢ G' m c from by
    unfold G'; iintro H; iexists K, KE; iexact H)
  isplitr
  · unfold recs0
    isplitr; · iexact HI
    isplitr; · iexact HR
    iexact HE
  · unfold lin
    iapply (Entails.of_eq (show _ = bigSep Finset.univ (fun c : Dev nD => iprop((bigSep Finset.univ fun k : CIx => atPos ER (kcell (c, k)) 0 ∅ 0)
      ∗ (bigSep Finset.univ fun s : Bool => toks s c)
      ∗ (bigSep Finset.univ fun s : Bool => iprop(atPos EQ (iq s (peer (!s) c)) 0 ∅ 0 ∗ atPos EQ (tq s c) 0 ∅ 0)) ∗ spare c)) from
        by rw [bigSep_sep', bigSep_sep', bigSep_sep']))
    isplitl [Hat]; · iexact Hat
    isplitl [Htok]; · iexact Htok
    isplitl [He] <;> iassumption

/-- The launch's step over every device at once. -/
theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits -/

theorem creds (c : Dev nD) : (Pipeline.launchCred O₀ c : sProp 𝕄) ⊢ iprop(both (fun s => iprop(
      (bigSep (Finset.Ico 0 30) fun i => cred (tallyAt (recvCell s c (sl (i + 1))) i N))
      ∗ (bigSep (Finset.Ico 0 28) fun i => cred (tallyAt (credCell s c) i 1)))) ∗ cred (tallyAt (barCell c) 0 2)) := by
  have hr (s : Bool) : (Pipeline.launchCred (fun d => ∑ i ∈ Finset.Ico 0 30, rT s d i) c : sProp 𝕄)
      ⊢ bigSep (Finset.Ico 0 30) fun i => cred (tallyAt (recvCell s c (sl (i + 1))) i N) := by
    rw [Pipeline.launchCred_sum]
    exact bigSep_mono fun i _ => Pipeline.launchCred_tallyAt (.dma (recvS s (sl (i + 1)))) (peer s) (peer (!s)) (peer_peer' s) (peer_peer s) i N c
  have hc (s : Bool) : (Pipeline.launchCred (fun d => ∑ i ∈ Finset.Ico 0 28, cT s d i) c : sProp 𝕄)
      ⊢ bigSep (Finset.Ico 0 28) fun i => cred (tallyAt (credCell s c) i 1) := by
    rw [Pipeline.launchCred_sum]
    exact bigSep_mono fun i _ => Pipeline.launchCred_tallyAt (.reg (credS s)) (peer (!s)) (peer s) (peer_peer s) (peer_peer' s) i 1 c
  have hb (s : Bool) : (Pipeline.launchCred (fun d => tallyAt (barCell (peer s d)) 0 1) c : sProp 𝕄) ⊢ cred (tallyAt (barCell c) 0 1) :=
    Pipeline.launchCred_tallyAt (.reg barS) (peer s) (peer (!s)) (peer_peer' s) (peer_peer s) 0 1 c
  unfold O₀ O₁ ow
  rw [Pipeline.launchCred_add, Pipeline.launchCred_add, Pipeline.launchCred_add, Pipeline.launchCred_add, Pipeline.launchCred_add]
  iintro ⟨⟨⟨⟨H1, H2⟩, H3, H4⟩, H5⟩, H6⟩
  ihave H1 := (hr false) $$ H1
  ihave H2 := (hr true) $$ H2
  ihave H3 := (hc false) $$ H3
  ihave H4 := (hc true) $$ H4
  ihave H5 := (hb false) $$ H5
  ihave H6 := (hb true) $$ H6
  isplitr [H5 H6]
  · isplitl [H1 H3]
    · isplitl [H1] <;> iassumption
    · isplitl [H2] <;> iassumption
  · rw [show (tallyAt (barCell c) 0 2 : Tal) = tallyAt (barCell c) 0 1 + tallyAt (barCell c) 0 1 from (tallyAt_add _ _ 1 1).symm]
    iapply (cred_add _ _).2
    isplitl [H5] <;> iassumption

/-! ## The protocol's start -/

/-- What a device's body starts from besides its buffers. -/
def start (c : Dev nD) : sProp 𝕄 :=
  iprop(∃ K KE, recs m K KE ∗ both (fun s => gRing s c) ∗ (atPos ER (barCell c) 0 ∅ 0 ∗ cred (tallyAt (barCell c) 0 2)) ∗ spare c)

theorem ring_intro (K : Dev nD × CIx → ℕ) (KE : Bool × Dev nD → ℕ) (s : Bool) (c : Dev nD) : iprop(recs m K KE
      ∗ ((atPos ER (sendCell s c 0) 0 ∅ 0 ∗ atPos ER (sendCell s c 1) 0 ∅ 0 ∗ atPos ER (sendCell s c 2) 0 ∅ 0)
        ∗ (atPos ER (recvCell s c 0) 0 ∅ 0 ∗ atPos ER (recvCell s c 1) 0 ∅ 0 ∗ atPos ER (recvCell s c 2) 0 ∅ 0)
        ∗ atPos ER (credCell s c) 0 ∅ 0)
      ∗ toks s c ∗ (atPos EQ (iq s (peer (!s) c)) 0 ∅ 0 ∗ atPos EQ (tq s c) 0 ∅ 0)
      ∗ ((bigSep (Finset.Ico 0 30) fun i => cred (tallyAt (recvCell s c (sl (i + 1))) i N))
        ∗ (bigSep (Finset.Ico 0 28) fun i => cred (tallyAt (credCell s c) i 1)))) ⊢ gRing s c := by
  unfold gRing toks CW SA RA CI SPos RPos
  iintro ⟨#HR, ⟨⟨S0, S1, S2⟩, ⟨R0, R1, R2⟩, C⟩, ⟨T1, T2, T3⟩, ⟨I, Q⟩, CR, CC⟩
  isplitl [C Q CC]
  · isplitl [CC]; · iexact CC
    iexists ∅
    isplitr; · ipureintro; exact ⟨Finset.empty_subset _, Nat.zero_le _⟩
    isplitl [C]; · iexact C
    isplitr; · rw [bigSep_empty]; iempintro
    iexact Q
  isplitl [S0 S1 S2]
  · isplitl [S0]
    · isplitl [S0]; · iexact S0
      iapply (rec_reached m K KE (c, .inr (.inl (s, sl 0)))); iexact HR
    isplitl [S1]
    · isplitl [S1]; · iexact S1
      iapply (rec_reached m K KE (c, .inr (.inl (s, sl 1)))); iexact HR
    · isplitl [S2]; · iexact S2
      iapply (rec_reached m K KE (c, .inr (.inl (s, sl 2)))); iexact HR
  isplitl [T2]; · iexact T2
  isplitl [R0 R1 R2 CR]
  · isplitr [CR]
    · isplitl [R1]
      · isplitl [R1]; · iexact R1
        iapply (rec_reached m K KE (c, .inr (.inr (.inl (s, sl 1))))); iexact HR
      isplitl [R2]
      · isplitl [R2]; · iexact R2
        iapply (rec_reached m K KE (c, .inr (.inr (.inl (s, sl 2))))); iexact HR
      · isplitl [R0]; · iexact R0
        iapply (rec_reached m K KE (c, .inr (.inr (.inl (s, sl 3))))); iexact HR
    · iexact CR
  isplitl [T3 I]
  · isplitl [T3]; · iexact T3
    iexact I
  iexact T1

theorem start_of (c : Dev nD) : iprop(levs ∗ Pipeline.launchCred O₀ c ∗ G' m c) ⊢ start m c := by
  unfold G' start lin
  rw [bigSep_cix, bigSep_bool, bigSep_bool, bigSep_bool]
  iintro ⟨#HL, HC, %K, %KE, #HR0, ⟨Hb, Pf, Pt⟩, ⟨Tf, Tt⟩, ⟨Ef, Et⟩, Hs⟩
  ihave ⟨⟨Cf, Ct⟩, Cb⟩ := (creds c) $$ HC
  ihave #HR := (show iprop(levs ∗ recs0 m K KE) ⊢ recs m K KE from by unfold recs recs0; iintro ⟨H, H1, H2, H3⟩; iframe) $$ []
  · isplitr; · iexact HL
    iexact HR0
  iexists K, KE
  isplitr; · iexact HR
  isplitl [Pf Pt Tf Tt Ef Et Cf Ct]
  · isplitl [Pf Tf Ef Cf]
    · iapply (ring_intro m K KE false c)
      isplitr; · iexact HR
      isplitl [Pf]; · iexact Pf
      isplitl [Tf]; · iexact Tf
      isplitl [Ef]; · iexact Ef
      iexact Cf
    · iapply (ring_intro m K KE true c)
      isplitr; · iexact HR
      isplitl [Pt]; · iexact Pt
      isplitl [Tt]; · iexact Tt
      isplitl [Et]; · iexact Et
      iexact Ct
  isplitl [Hb Cb]
  · isplitl [Hb]; · iexact Hb
    iexact Cb
  iexact Hs

end Cert.KernelIdeal.Two

end
-- ==== Proof.Mem.lean ====
/-
  The buffers cut into the pieces the body works on, and put together again: the slots of the scratch buffers, the shares
  of x, and the blocks of the result.
-/
module

public import proofs.«01_k».proof.Proof.Ghost

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## A buffer at any contents and its slices -/

section Pieces
variable (c : Dev nD) {sp : Space} {sh sh' : Shape} {e : EltTy} (M : Memref sig .tc sp sh e)

/-- A memref held at any contents is its elements held at any contents. -/
theorem any_elts : (anyOf (F := F) c M : sProp 𝕄)
    ⊣⊢ iprop(∃ f : Buf (Elt F) (M.view.loc (c : Thread nD τ)), M.view.loc (c : Thread nD τ) ↦[M.view.set]{fullShare} f) := by
  unfold anyOf
  constructor
  · iintro ⟨%X, H⟩
    unfold owns
    icases H with ⟨%f, -, H⟩
    iexists f
    iexact H
  · iintro ⟨%f, H⟩
    iexists (M.view.read (Elt F) f)
    unfold owns
    iexists f
    isplitr
    · ipureintro; rfl
    iexact H
/-- Dropping unit axes changes no element. -/
theorem any_squeeze (r : Rect sh) (hr : ∀ a, r.stride a = 1) (hq : r.shape.Squeezes sh') :
    (anyOf (F := F) c ((M.slice r hr).squeeze sh' hq) : sProp 𝕄) ⊣⊢ anyOf c (M.slice r hr) := by
  constructor
  · refine (any_elts c _).1.trans ?_
    iintro ⟨%f, H⟩
    iapply (any_elts c (M.slice r hr)).2
    iexists f
    iapply (Entails.of_eq (congrArg (fun S => (M.view.loc (c : Thread nD τ) ↦[S]{fullShare} f : sProp 𝕄)) (set_sq M r hr hq))) $$ H
  · refine (any_elts c _).1.trans ?_
    iintro ⟨%f, H⟩
    iapply (any_elts c ((M.slice r hr).squeeze sh' hq)).2
    iexists f
    iapply (Entails.of_eq (congrArg (fun S => (M.view.loc (c : Thread nD τ) ↦[S]{fullShare} f : sProp 𝕄)) (set_sq M r hr hq).symm)) $$ H

variable {T : Type} [Fintype T] [DecidableEq T] [Inhabited T] (r : T → Rect sh) (hr : ∀ t a, (r t).stride a = 1)
  (hd : ∀ t t', t ≠ t' → Disjoint (r t).set (r t').set)
  (hcov : ∀ i : sh.Idx, ∃ t, i ∈ (r t).set)
include hd hcov

theorem any_cut : (anyOf (F := F) c M : sProp 𝕄) ⊢ bigSep Finset.univ fun t => anyOf c (M.slice (r t) (hr t)) := by
  have hu : (Finset.univ : Finset T).biUnion (fun t => (r t).set) = Finset.univ := by
    ext i; simp only [Finset.mem_biUnion, Finset.mem_univ, true_and, iff_true]; exact hcov i
  have h (X : sh.Idx → Elt F e) : (owns (c : Thread nD τ) M fullShare X : sProp 𝕄) ⊢ bigSep Finset.univ fun t => anyOf c (M.slice (r t) (hr t)) :=
    (owns_rects (Val := Elt F) (c : Thread nD τ) M fullShare r hr hd hu X).trans
      (bigSep_mono fun t _ => anyOf_intro c (M.slice (r t) (hr t)) _)
  unfold anyOf at h ⊢
  iintro ⟨%X, H⟩
  iapply (h X) $$ H

/-- The elements of disjoint slices that cover a buffer, each slice at contents of its own: the buffer at contents that
    agree with each. -/
theorem elts_glue (P : T → Buf (Elt F) (M.view.loc (c : Thread nD τ)) → Prop)
    (hP : ∀ t f g, (∀ i ∈ (M.view.slice (r t)).set, g i = f i) → P t f → P t g) :
    (bigSep Finset.univ fun t => iprop(∃ f, ⌜P t f⌝ ∗ (M.view.loc (c : Thread nD τ) ↦[(M.view.slice (r t)).set]{fullShare} f)) : sProp 𝕄)
      ⊢ iprop(∃ g, ⌜∀ t, P t g⌝ ∗ (M.view.loc (c : Thread nD τ) ↦[M.view.set]{fullShare} g)) := by
  have hset : (Finset.univ : Finset T).biUnion (fun t => (M.view.slice (r t)).set) = M.view.set := by
    ext i; constructor
    · intro hi
      obtain ⟨t, -, hi⟩ := Finset.mem_biUnion.mp hi
      exact View.set_slice_subset _ _ hi
    · intro hi
      rw [View.set, Finset.mem_map] at hi
      obtain ⟨x, -, rfl⟩ := hi
      obtain ⟨t, hx⟩ := hcov x
      exact Finset.mem_biUnion.mpr ⟨t, Finset.mem_univ _, by rw [View.set_slice]; exact Finset.mem_map_of_mem _ hx⟩
  have hdis : ∀ t ∈ (Finset.univ : Finset T), ∀ t' ∈ (Finset.univ : Finset T), t ≠ t' →
      Disjoint (M.view.slice (r t)).set (M.view.slice (r t')).set := fun t _ t' _ h => by
      rw [View.set_slice, View.set_slice]; exact (Finset.disjoint_map _).mpr (hd t t' h)
  haveI : ∀ _ : T, Nonempty (Buf (Elt F) (M.view.loc (c : Thread nD τ))) := fun _ => ⟨fun _ => Classical.arbitrary _⟩
  refine (BI.bigSep_exists_pi Finset.univ (fun t f => iprop(⌜P t f⌝ ∗ (M.view.loc (c : Thread nD τ) ↦[(M.view.slice (r t)).set]{fullShare} f)))).trans ?_
  iintro ⟨%fs, H⟩
  ihave H := (BI.bigSep_pure_sep Finset.univ (fun t => P t (fs t)) (fun t => (M.view.loc (c : Thread nD τ) ↦[(M.view.slice (r t)).set]{fullShare} fs t : sProp 𝕄))) $$ H
  icases H with ⟨%hp, H⟩
  ihave H := (pointsTo_biUnion_join (Val := Elt F) (q := fullShare) Finset.univ (fun t => (M.view.slice (r t)).set) fs (fs default) hdis) $$ H
  icases H with ⟨%g, %hg, H⟩
  iexists g
  isplitr
  · ipureintro
    exact fun t => hP t (fs t) g (hg t (Finset.mem_univ _)) (hp t (Finset.mem_univ _))
  rw [← hset]
  iexact H
theorem any_glue : (bigSep Finset.univ fun t => anyOf (F := F) c (M.slice (r t) (hr t)) : sProp 𝕄) ⊢ anyOf c M := by
  refine (bigSep_mono fun t _ => ?_).trans ((elts_glue c M r hd hcov (fun _ _ => True) fun _ _ _ _ h => h).trans ?_)
  · refine (any_elts c (M.slice (r t) (hr t))).1.trans ?_
    iintro ⟨%f, H⟩
    iexists f
    isplitr
    · ipureintro; trivial
    iexact H
  · refine BIBase.Entails.trans ?_ (any_elts c M).2
    iintro ⟨%g, -, H⟩
    iexists g
    iexact H

end Pieces

theorem slot_cut (s : Bool) (c : Dev nD) : (anyOf (F := F) c (commM s) : sProp 𝕄)
    ⊣⊢ iprop(anyOf c (slotM s 0) ∗ anyOf c (slotM s 1) ∗ anyOf c (slotM s 2)) := by
  have hd : ∀ t t' : Fin 3, t ≠ t' → Disjoint (slotR t).set (slotR t').set := fun t t' h => by
    have := Fin.val_ne_of_ne h
    refine Rect.unit_disjoint (0 : Fin 3) ?_
    show t.val + 1 ≤ t'.val ∨ t'.val + 1 ≤ t.val
    omega
  have hcov : ∀ i : S3x512x2048.Idx, ∃ t, i ∈ (slotR t).set := fun i =>
    ⟨i (0 : Fin 3), Rect.mem_set_unit.mpr fun a => by
      match a with
      | 0 => exact ⟨le_rfl, Nat.lt_succ_self _⟩
      | 1 => exact ⟨Nat.zero_le _, (Nat.zero_add 512).symm ▸ (i (1 : Fin 3)).isLt⟩
      | 2 => exact ⟨Nat.zero_le _, (Nat.zero_add 2048).symm ▸ (i (2 : Fin 3)).isLt⟩⟩
  have e (r : Fin 3) := any_squeeze (F := F) c (commM s) (slotR r) (fun _ => rfl) squeezes_S1x512x2048_S512x2048
  constructor
  · refine (any_cut c (commM s) slotR (fun _ _ => rfl) hd hcov).trans ?_
    rw [bigSep_three]
    exact BI.sep_mono (e 0).2 (BI.sep_mono (e 1).2 (e 2).2)
  · refine BIBase.Entails.trans ?_ (any_glue c (commM s) slotR (fun _ _ => rfl) hd hcov)
    rw [bigSep_three]
    exact BI.sep_mono (e 0).1 (BI.sep_mono (e 1).1 (e 2).1)

theorem xs_cut (s : Bool) (c : Dev nD) : (anyOf (F := F) c (xsA s) : sProp 𝕄) ⊣⊢ iprop(anyOf c (xsM s 0) ∗ anyOf c (xsM s 1)) := by
  have hd : ∀ t t' : Fin 2, t ≠ t' → Disjoint (xsR t).set (xsR t').set := fun t t' h => by
    have := Fin.val_ne_of_ne h
    refine Rect.unit_disjoint (0 : Fin 3) ?_
    show t.val + 1 ≤ t'.val ∨ t'.val + 1 ≤ t.val
    omega
  have hcov : ∀ i : S2x512x512.Idx, ∃ t, i ∈ (xsR t).set := fun i =>
    ⟨i (0 : Fin 3), Rect.mem_set_unit.mpr fun a => by
      match a with
      | 0 => exact ⟨le_rfl, Nat.lt_succ_self _⟩
      | 1 => exact ⟨Nat.zero_le _, (Nat.zero_add 512).symm ▸ (i (1 : Fin 3)).isLt⟩
      | 2 => exact ⟨Nat.zero_le _, (Nat.zero_add 512).symm ▸ (i (2 : Fin 3)).isLt⟩⟩
  have e (r : Fin 2) := any_squeeze (F := F) c (xsA s) (xsR r) (fun _ => rfl) squeezes_S1x512x512_S512x512
  have two (Φ : Fin 2 → sProp 𝕄) : bigSep Finset.univ Φ = iprop(Φ 0 ∗ Φ 1) := bigSep_univ_eq_bigSepL [0, 1] (by decide) (by decide) Φ
  constructor
  · refine (any_cut c (xsA s) xsR (fun _ _ => rfl) hd hcov).trans ?_
    rw [two]
    exact BI.sep_mono (e 0).2 (e 1).2
  · refine BIBase.Entails.trans ?_ (any_glue c (xsA s) xsR (fun _ _ => rfl) hd hcov)
    rw [two]
    exact BI.sep_mono (e 0).1 (e 1).1

/-- A whole buffer at any contents. -/
theorem any_whole (c : Dev nD) (b : Ref sig .tc) : (anyOf (F := F) c (Memref.whole b) : sProp 𝕄)
    ⊣⊢ iprop(∃ f : Buf (Elt F) ((c : Thread nD τ).loc b), ((c : Thread nD τ).loc b) ↦{fullShare} f) := by
  have h := any_elts (F := F) c (Memref.whole b)
  rw [show (Memref.whole b).view.set = Finset.univ from View.set_whole _] at h
  exact h

/-! ## The blocks of the result -/

/-- The block row of the result that output `j` of ring `s` writes. -/
def oRow (s : Bool) (c : Dev nD) (j : ℕ) : ℕ := if s then (c.val + 31 + j) % 16 else (c.val + 33 - j) % 16

theorem oOff_eq (s : Bool) (c : Dev nD) (j : ℕ) (hj : j < 16) : oOff s c j = ![512 * oRow s c j, if s then 2048 else 0] := by
  unfold oRow
  cases s <;> rcases j with _ | n
  · exact k0_off6_eq c
  · show k0_off8 c (BitVec.ofNat 32 (n % 15)) = _
    have h : n < 15 := by omega
    rw [k0_off8_eq c ⟨n % 15, Nat.mod_lt _ (by decide)⟩]
    simp only [Nat.mod_eq_of_lt h, Bool.false_eq_true, if_false]
    rw [show c.val + 33 - (n + 1) = c.val + 32 - n by omega]
  · exact k0_off7_eq c
  · show k0_off9 c (BitVec.ofNat 32 (n % 15)) = _
    have h : n < 15 := by omega
    rw [k0_off9_eq c ⟨n % 15, Nat.mod_lt _ (by decide)⟩]
    simp only [Nat.mod_eq_of_lt h, if_true]
    rw [show c.val + 31 + (n + 1) = c.val + n + 32 by omega]

/-- The rectangle of output `j` of a ring. -/
abbrev oR (c : Dev nD) (t : Bool × Fin 16) : Rect S8192x4096 :=
  Rect.unit (s := S8192x4096) (oOff t.1 c t.2.val) S512x2048.size (oOff_inb t.1 c t.2.val)

theorem oR_mem (c : Dev nD) (t : Bool × Fin 16) (i : S8192x4096.Idx) : i ∈ (oR c t).set ↔
    (512 * oRow t.1 c t.2.val ≤ (i (0 : Fin 2)).val ∧ (i (0 : Fin 2)).val < 512 * oRow t.1 c t.2.val + 512)
      ∧ ((if t.1 then 2048 else 0) ≤ (i (1 : Fin 2)).val ∧ (i (1 : Fin 2)).val < (if t.1 then 2048 else 0) + 2048) := by
  rw [Rect.mem_set_unit]
  simp only [oOff_eq t.1 c t.2.val t.2.isLt]
  constructor
  · intro h; exact ⟨h 0, h 1⟩
  · intro h a
    match a with
    | 0 => exact h.1
    | 1 => exact h.2

theorem oR_cov (c : Dev nD) (i : S8192x4096.Idx) : ∃ t, i ∈ (oR c t).set := by
  have h0 : (i (0 : Fin 2)).val < 8192 := (i (0 : Fin 2)).isLt
  have h1 : (i (1 : Fin 2)).val < 4096 := (i (1 : Fin 2)).isLt
  have hc : c.val < 16 := c.isLt
  by_cases h : 2048 ≤ (i (1 : Fin 2)).val
  · refine ⟨(true, ⟨((i (0 : Fin 2)).val / 512 + 33 - c.val) % 16, Nat.mod_lt _ (by decide)⟩), (oR_mem c _ i).mpr ?_⟩
    simp only [oRow, if_true]
    omega
  · refine ⟨(false, ⟨(c.val + 33 - (i (0 : Fin 2)).val / 512) % 16, Nat.mod_lt _ (by decide)⟩), (oR_mem c _ i).mpr ?_⟩
    simp only [oRow, Bool.false_eq_true, if_false]
    omega

theorem oR_disj (c : Dev nD) (t t' : Bool × Fin 16) (h : t ≠ t') : Disjoint (oR c t).set (oR c t').set := by
  refine Finset.disjoint_left.mpr fun i hi hi' => h ?_
  obtain ⟨h1, h2⟩ := (oR_mem c t i).mp hi
  obtain ⟨h1', h2'⟩ := (oR_mem c t' i).mp hi'
  obtain ⟨s, j, hj⟩ := t
  obtain ⟨s', j', hj'⟩ := t'
  have hc : c.val < 16 := c.isLt
  have hs : s = s' := by
    cases s <;> cases s' <;> first | rfl | (exfalso; simp only [Bool.false_eq_true, if_false, if_true] at h2 h2'; omega)
  subst hs
  have : j = j' := by
    cases s <;> simp only [oRow, Bool.false_eq_true, if_false, if_true] at h1 h1' <;> omega
  subst this
  rfl

/-- A family over the blocks of both rings, ring by ring. -/
theorem blocks (Φ : Bool → ℕ → sProp 𝕄) : (bigSep Finset.univ fun t : Bool × Fin 16 => Φ t.1 t.2.val)
    = iprop(bigSep (Finset.Ico 0 16) (Φ false) ∗ bigSep (Finset.Ico 0 16) (Φ true)) := by
  rw [bigSep_univ_prod, bigSep_bool]
  exact congrArg₂ (fun A B : sProp 𝕄 => iprop(A ∗ B)) (bigSep_fin 16 (Φ false)) (bigSep_fin 16 (Φ true))

theorem out_cut (c : Dev nD) : (anyOf (F := F) c oM : sProp 𝕄)
    ⊢ both (fun s => bigSep (Finset.Ico 0 16) fun j => anyOf c (oBlk s c j)) := by
  refine (any_cut c oM (oR c) (fun _ _ => rfl) (oR_disj c) (oR_cov c)).trans ?_
  exact Entails.of_eq (blocks fun s j => anyOf c (oBlk s c j))

variable (m : (ℓ : Loc nD τ sig) → Buf (Elt F) ℓ)

/-- Contents of the result that hold in every block what its ring has summed there. -/
def IsOut (c : Dev nD) (g : Buf (Elt F) ((c : Thread nD τ).loc main_v1)) : Prop :=
  ∀ (s : Bool) (j : ℕ), j < 16 → (oBlk s c j).view.read (Elt F) g = acc m s c (15 + j)

theorem out_glue (c : Dev nD) : (both (fun s => bigSep (Finset.range 16) fun j => oDone m s c j) : sProp 𝕄)
    ⊢ iprop(∃ g : Buf (Elt F) ((c : Thread nD τ).loc main_v1), ⌜IsOut m c g⌝ ∗ (((c : Thread nD τ).loc main_v1) ↦{fullShare} g)) := by
  rw [Finset.range_eq_Ico]
  refine (Entails.of_eq (blocks fun s j => oDone m s c j).symm).trans ?_
  have h1 : (bigSep Finset.univ fun t : Bool × Fin 16 => oDone m t.1 c t.2.val : sProp 𝕄)
      ⊢ bigSep Finset.univ fun t : Bool × Fin 16 => iprop(∃ f : Buf (Elt F) (oM.view.loc (c : Thread nD τ)),
      ⌜(oBlk t.1 c t.2.val).view.read (Elt F) f = acc m t.1 c (15 + t.2.val)⌝
        ∗ (oM.view.loc (c : Thread nD τ) ↦[(oM.view.slice (oR c t)).set]{fullShare} f)) :=
    bigSep_mono fun t _ => by
      show (owns (Val := Elt F) (c : Thread nD τ) (oBlk t.1 c t.2.val) fullShare (acc m t.1 c (15 + t.2.val)) : sProp 𝕄) ⊢ _
      unfold owns
      iintro ⟨%f, %hf, H⟩
      iexists f
      isplitr
      · ipureintro; exact hf
      iexact H
  refine h1.trans ((elts_glue c oM (oR c) (oR_disj c) (oR_cov c)
      (fun t f => (oBlk t.1 c t.2.val).view.read (Elt F) f = acc m t.1 c (15 + t.2.val)) ?_).trans ?_)
  · intro t f g hg hf
    rw [← hf]
    funext x
    rw [View.read_apply, View.read_apply]
    have := hg ((oBlk t.1 c t.2.val).view.emb x) (Finset.mem_map_of_mem _ (Finset.mem_univ x))
    rw [this]
  · rw [show oM.view.set = Finset.univ from View.set_whole _]
    iintro ⟨%g, %hg, H⟩
    iexists g
    isplitr
    · ipureintro
      exact fun s j hj => hg (s, ⟨j, hj⟩)
    iexact H

/-! ## The shares of x -/

theorem x_cut (c : Dev nD) : ((c : Thread nD τ).loc main_arg0 ↦{fullShare} xBuf m c : sProp 𝕄)
    ⊣⊢ iprop(both (fun s => xHeld m s c) ∗ iHeld m c) := by
  have h1 := pointsTo_share (Val := Elt F) (Ix := ℕ) (Name := ℕ) (U := UU) (Lvl := ℕ) (ℓ := (c : Thread nD τ).loc main_arg0) (I := Finset.univ) (f := xBuf m c) (PosShare.mem_left_op_right fullShare)
  have h2 := pointsTo_share (Val := Elt F) (Ix := ℕ) (Name := ℕ) (U := UU) (Lvl := ℕ) (ℓ := (c : Thread nD τ).loc main_arg0) (I := Finset.univ) (f := xBuf m c) (PosShare.mem_left_op_right fullShare.right)
  show _ ⊣⊢ iprop((((c : Thread nD τ).loc main_arg0 ↦{fullShare.left} xBuf m c) ∗ ((c : Thread nD τ).loc main_arg0 ↦{fullShare.right.left} xBuf m c))
    ∗ ((c : Thread nD τ).loc main_arg0 ↦{fullShare.right.right} xBuf m c))
  constructor
  · iintro H
    ihave H := h1.1 $$ H
    icases H with ⟨Hl, Hr⟩
    ihave H := h2.1 $$ Hr
    icases H with ⟨Hrl, Hrr⟩
    isplitl [Hl Hrl]
    · isplitl [Hl] <;> iassumption
    iexact Hrr
  · iintro ⟨⟨Hl, Hrl⟩, Hrr⟩
    iapply h1.2
    isplitl [Hl]
    · iexact Hl
    iapply h2.2
    isplitl [Hrl] <;> iassumption

end Cert.KernelIdeal.Two
-- ==== Proof.Launch.lean ====
/-
  The run of @main: every device's body from the launch, and what the final memory holds.
-/
module

public import proofs.«01_k».proof.Proof.Mem
public import Idealize.ShloMosaic.Lib.Pipeline.CollectiveSegs

@[expose] public section

noncomputable section

namespace Cert.KernelIdeal.Two

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The buffers and the pieces -/

/-- The scratch buffers at any contents. -/
def scratch (c : Dev nD) : sProp 𝕄 :=
  iprop(anyOf c (commM false) ∗ anyOf c (commM true) ∗ anyOf c (tmpM false) ∗ anyOf c (tmpM true)
    ∗ anyOf c (xsA false) ∗ anyOf c (xsA true) ∗ anyOf c xiM)
theorem scratch_eq (c : Dev nD) : (Pipeline.scopedRest cfg0.spec c : sProp 𝕄) ⊣⊢ scratch c := by
  rw [scopedRest0_eq]
  unfold scratch
  constructor
  · exact BI.sep_mono (any_whole c cc0_scratch0).2 (BI.sep_mono (any_whole c cc0_scratch1).2 (BI.sep_mono (any_whole c cc0_scratch2).2
      (BI.sep_mono (any_whole c cc0_scratch3).2 (BI.sep_mono (any_whole c cc0_scratch4).2 (BI.sep_mono (any_whole c cc0_scratch5).2
        (any_whole c cc0_scratch6).2)))))
  · exact BI.sep_mono (any_whole c cc0_scratch0).1 (BI.sep_mono (any_whole c cc0_scratch1).1 (BI.sep_mono (any_whole c cc0_scratch2).1
      (BI.sep_mono (any_whole c cc0_scratch3).1 (BI.sep_mono (any_whole c cc0_scratch4).1 (BI.sep_mono (any_whole c cc0_scratch5).1
        (any_whole c cc0_scratch6).1)))))

/-- x, whole, and the result at what the rings have summed. -/
def xAll (c : Dev nD) : sProp 𝕄 := iprop((c : Thread nD τ).loc main_arg0 ↦{fullShare} xBuf m c)
def outAll (c : Dev nD) : sProp 𝕄 :=
  iprop(∃ g : Buf (Elt F) ((c : Thread nD τ).loc main_v1), ⌜IsOut m c g⌝ ∗ (((c : Thread nD τ).loc main_v1) ↦{fullShare} g))

theorem lay_out (c : Dev nD) : (iprop(spare c ∗ (xAll m c ∗ anyOf c oM) ∗ scratch c) : sProp 𝕄)
    ⊢ iprop(both (fun s => iprop(bufs m s c ∗ OB m s c 0)) ∗ ((iHeld m c ∗ iSem c) ∗ anyOf c xiM)) := by
  have h (s : Bool) : (iprop(anyOf c (commM s) ∗ anyOf c (tmpM s) ∗ anyOf c (xsA s) ∗ (xHeld m s c ∗ xSem s c)
      ∗ (bigSep (Finset.Ico 0 16) fun j => anyOf c (oBlk s c j)) ∗ oSem s c) : sProp 𝕄) ⊢ iprop(bufs m s c ∗ OB m s c 0) := by
    unfold bufs OB
    rw [Finset.range_zero, bigSep_empty]
    iintro ⟨Hc, Ht, Hx, Hh, Ho, Hs⟩
    ihave Hc := (slot_cut s c).1 $$ Hc
    ihave Hx := (xs_cut s c).1 $$ Hx
    isplitl [Hc Ht Hx Hh]
    · isplitl [Hc]; · iexact Hc
      isplitl [Ht]; · iexact Ht
      isplitl [Hx]; · iexact Hx
      iexact Hh
    isplitr
    · iempintro
    isplitl [Ho]; · iexact Ho
    iexact Hs
  unfold spare xAll scratch
  iintro ⟨⟨Hi, ⟨X0, X1⟩, O0, O1⟩, ⟨Hx, Ho⟩, C0, C1, T0, T1, S0, S1, Xi⟩
  ihave Hx := (x_cut m c).1 $$ Hx
  icases Hx with ⟨⟨H0, H1⟩, HI⟩
  ihave Ho := (out_cut c) $$ Ho
  icases Ho with ⟨B0, B1⟩
  isplitr [Hi HI Xi]
  · isplitl [C0 T0 S0 H0 X0 B0 O0]
    · iapply h false
      isplitl [C0]; · iexact C0
      isplitl [T0]; · iexact T0
      isplitl [S0]; · iexact S0
      isplitl [H0 X0]
      · isplitl [H0]; · iexact H0
        iexact X0
      isplitl [B0]; · iexact B0
      iexact O0
    · iapply h true
      isplitl [C1]; · iexact C1
      isplitl [T1]; · iexact T1
      isplitl [S1]; · iexact S1
      isplitl [H1 X1]
      · isplitl [H1]; · iexact H1
        iexact X1
      isplitl [B1]; · iexact B1
      iexact O1
  isplitl [Hi HI]
  · isplitl [HI]; · iexact HI
    iexact Hi
  iexact Xi

theorem gather (c : Dev nD) : (iprop(both (fun s => iprop(bufs m s c ∗ OB m s c 16)) ∗ ((iHeld m c ∗ iSem c) ∗ anyOf c xiM)) : sProp 𝕄)
    ⊢ iprop(spare c ∗ (xAll m c ∗ outAll m c) ∗ scratch c) := by
  have h (s : Bool) : (iprop(bufs m s c ∗ OB m s c 16) : sProp 𝕄) ⊢ iprop(anyOf c (commM s) ∗ anyOf c (tmpM s) ∗ anyOf c (xsA s) ∗ (xHeld m s c ∗ xSem s c)
      ∗ (bigSep (Finset.range 16) fun j => oDone m s c j) ∗ oSem s c) := by
    unfold bufs OB
    iintro ⟨⟨Hc, Ht, Hx, Hh⟩, Ho, -, Hs⟩
    ihave Hc := (slot_cut s c).2 $$ Hc
    ihave Hx := (xs_cut s c).2 $$ Hx
    isplitl [Hc]; · iexact Hc
    isplitl [Ht]; · iexact Ht
    isplitl [Hx]; · iexact Hx
    isplitl [Hh]; · iexact Hh
    isplitl [Ho]; · iexact Ho
    iexact Hs
  unfold spare xAll outAll scratch
  iintro ⟨⟨R0, R1⟩, ⟨HI, Hi⟩, Xi⟩
  ihave R0 := (h false) $$ R0
  ihave R1 := (h true) $$ R1
  icases R0 with ⟨C0, T0, S0, ⟨H0, X0⟩, B0, O0⟩
  icases R1 with ⟨C1, T1, S1, ⟨H1, X1⟩, B1, O1⟩
  isplitl [Hi X0 X1 O0 O1]
  · isplitl [Hi]; · iexact Hi
    isplitl [X0 X1]
    · isplitl [X0]; · iexact X0
      iexact X1
    isplitl [O0]; · iexact O0
    iexact O1
  isplitl [HI H0 H1 B0 B1]
  · isplitl [HI H0 H1]
    · iapply (x_cut m c).2
      isplitl [H0 H1]
      · isplitl [H0]; · iexact H0
        iexact H1
      iexact HI
    iapply (out_glue m c)
    isplitl [B0]; · iexact B0
    iexact B1
  isplitl [C0]; · iexact C0
  isplitl [C1]; · iexact C1
  isplitl [T0]; · iexact T0
  isplitl [T1]; · iexact T1
  isplitl [S0]; · iexact S0
  isplitl [S1]; · iexact S1
  iexact Xi

/-! ## The pipeline's data -/

def Φ₀ (c : Dev nD) : sProp 𝕄 := iprop((start m c ∗ xAll m c ∗ anyOf c oM) ∗ scratch c)
def Φ₁ (c : Dev nD) : sProp 𝕄 :=
  iprop((both (fun s => zRing s c) ∗ spare c) ∗ semVal (barCell c) 0 ∗ (xAll m c ∗ outAll m c) ∗ scratch c)

def dats (_ : Fin 1) (c : Dev nD) : Dat τ (Elt F) ℕ ℕ UU ℕ cfg0 c where
  A w := m ((cfg0.win w).arr.view.loc (c : Thread nD τ))
  after w _ := match w with
    | ⟨0, _⟩ => wst m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by
  unfold Dat.share
  split <;> rfl

theorem fetch_0 (t : Fin cfg0.N) : (cfg0.win (0 : Fin 1)).fetch t = true := by rw [fin_N0 t]; rfl

theorem body_row : defs₀ (F := F) .tc cfg0.body (cfg0.bodyArgs t0_0 (cfg0.slots t0_0)) = bodyAt0 (F := F) t0_0 := rfl
theorem Φ_first (c : Dev nD) : (dats m 0 c).Φ t0_0.castSucc = Φ₀ m c := rfl
theorem Φ_last (c : Dev nD) : (dats m 0 c).Φ t0_0.succ = Φ₁ m c := rfl
theorem after_w (c : Dev nD) : (dats m 0 c).after (0 : Fin 1) t0_0 = wst m c := rfl

theorem body_obligation (c : Dev nD) : BodyObligation (dats m 0 c) (defs₀ (F := F)) 𝒱₀ 0 Set.univ := fun t => by
  rw [fin_N0 t]
  rw [bigSep_W0, bigSep_W0]
  with_reducible rw [body_row]
  dsimp only
  rw [Φ_first, Φ_last, after_w]
  have hb (d : _) : (dats m 0 c).before (0 : Fin 1) t0_0 d = wst m c := by
    unfold Dat.before; rw [if_pos (fetch_0 t0_0)]; rfl
  simp only [hb]
  rw [body_eq]
  unfold Φ₀ start
  iintro ⟨⟨⟨⟨%K, %KE, Hr, Hg, Hb, Hs⟩, Hx, Ho⟩, Hscr⟩, HO, ⟨%d, Hw⟩⟩
  iapply (sound (m := m) (K := K) (KE := KE) c fun _ => iprop(Φ₁ m c ∗ (dats m 0 c).owesAt 0 t0_0.succ ∗ owns (c : Thread nD τ) (stage0_0 0) fullShare (wst m c)))
  isplitl [Hr]; · iexact Hr
  isplitr []
  · isplitl [Hw]; · iexact Hw
    ihave H := (lay_out m c) $$ [Hs Hx Ho Hscr]
    · isplitl [Hs]; · iexact Hs
      isplitl [Hx Ho]
      · isplitl [Hx]; · iexact Hx
        iexact Ho
      iexact Hscr
    icases H with ⟨⟨R0, R1⟩, Hi⟩
    icases Hg with ⟨G0, G1⟩
    unfold bPre
    isplitr [HO]
    · isplitl [G0 G1 R0 R1]
      · isplitl [G0 R0]
        · isplitl [G0]; · iexact G0
          iexact R0
        · isplitl [G1]; · iexact G1
          iexact R1
      isplitl [Hb]; · iexact Hb
      iexact Hi
    unfold Dat.owesAt Pipeline.owesWithin
    icases HO with ⟨%W, -, HO⟩
    unfold Ow
    iexists W
    iexact HO
  · unfold bPost
    iintro ⟨Hw, ⟨⟨⟨⟨Z0, R0⟩, Z1, R1⟩, Hb, Hi⟩, HO⟩⟩
    ihave H := (gather m c) $$ [R0 R1 Hi]
    · isplitl [R0 R1]
      · isplitl [R0]; · iexact R0
        iexact R1
      iexact Hi
    icases H with ⟨Hs, Ha, Hscr⟩
    isplitl [Z0 Z1 Hs Hb Ha Hscr]
    · unfold Φ₁
      isplitl [Z0 Z1 Hs]
      · isplitl [Z0 Z1]
        · isplitl [Z0]; · iexact Z0
          iexact Z1
        iexact Hs
      isplitl [Hb]; · iexact Hb
      isplitl [Ha]; · iexact Ha
      iexact Hscr
    isplitl [HO]
    · unfold Ow Dat.owesAt Pipeline.owesWithin
      icases HO with ⟨%W, HO⟩
      iexists W
      isplitr
      · ipureintro; exact fun _ _ => Or.inl trivial
      iexact HO
    iexact Hw

theorem stageWait (c : Dev nD) (q : DmaSem sig) (hq : kind (.dma q) = .oth) (O : Tal) (hO : Above 0 O) :
    (levAts L lv : sProp 𝕄) ⊢ MayWait (c : Thread nD τ) (.dma q) 0 O := by
  have h := mayWait (F := F) c hq 0 (by decide) hO
  unfold levs at h
  exact h

theorem waits (c : Dev nD) : (levAts L lv : sProp 𝕄) ⊢ Pipeline.cellsWaits cfgs (dats m) 0 0 c :=
  Pipeline.cellsWaits_intro cfgs (dats m) 0 0 c fun w s t =>
    stageWait c _ (by fin_cases w <;> fin_cases s <;> rfl) _ (by
      rcases t with ⟨_ | _, ht⟩
      · exact above_O₀ c
      · exact fun g u hg => absurd hg (lt_irrefl 0))

/-! ## The launch's sides -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ xAll m c ∗ anyOf c oM) ∗ emp) := by
  have h := start_of m c
  unfold levs at h
  unfold xAll
  rw [Pipeline.unscopedRestP_none, unscopedRest0_eq]
  iintro ⟨⟨Hx, Ho⟩, Hl, Hc, -, HG⟩
  imodintro
  isplitl
  · isplitl [Hl Hc HG]
    · iapply h
      isplitl [Hl]; · iexact Hl
      isplitl [Hc]; · iexact Hc
      iexact HG
    isplitl [Hx]; · iexact Hx
    iapply (any_whole c main_v1).2
    iexists _
    iexact Ho
  iempintro

theorem phi0_intro (c : Dev nD) :
    iprop((start m c ∗ xAll m c ∗ anyOf c oM) ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_eq c).1
  iexact Hr

/-- What a device leaves to be read in the final memory. -/
def left (c : Dev nD) : sProp 𝕄 := iprop(unscopedSems0 c ∗ xAll m c ∗ outAll m c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl]
  unfold Φ₁ left
  rw [un0_eq]
  iintro ⟨Hz, Hb, Ha, Hr⟩
  isplitl [Hb Ha]
  · isplitl [Hb]; · iexact Hb
    iexact Ha
  isplitl [Hz]
  · iapply (own0_eq c).2
    iexact Hz
  iapply (scratch_eq c).2
  iexact Hr

/-- What the final memory holds on a device besides the staged block of w. -/
def Reads (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ IsOut m c (s.mem ((c : Thread nD τ).loc main_v1))

theorem left_read (c : Dev nD) (s' : Phys nD τ sig (Elt F)) :
    iprop(left m c ∗ emp ∗ SI s') ⊢ |={Set.univ}=> iprop(⌜Reads m c s'.mem⌝ ∗ (SI s' : sProp 𝕄)) := by
  unfold left xAll outAll
  iintro ⟨⟨Hu, Hx, ⟨%g, %hg, Ho⟩⟩, -, HSI⟩
  icombine HSI Hx gives %hx
  icombine HSI Ho gives %ho
  imod (Pipeline.unscopedSems0_read (X := unscopedSems0 c) (c := c) fupd_intro s') $$ [Hu HSI] with H
  · isplitl [Hu] <;> iassumption
  icases H with ⟨%hu, HSI⟩
  imodintro
  isplitr
  · ipureintro
    refine ⟨hu, funext fun i => hx i (Finset.mem_univ _), ?_⟩
    rw [show s'.mem.mem ((c : Thread nD τ).loc main_v1) = g from funext fun i => ho i (Finset.mem_univ _)]
    exact hg
  iexact HSI

/-- From any memory with zero counters, every weakly fair execution of @main on the sixteen devices terminates; the final
    memory holds each device's blocks of x and w unchanged, its result at what the rings have summed, and every counter at
    zero. -/
theorem run_main (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ IsOut m c (r.2.mem ((c : Thread nD τ).loc main_v1)))
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_G m) $$ HX with HG
      imodintro
      isplitl [HP] <;> iassumption)
    (hglob := glob m)
    (hA := fun _ _ => rfl) (hpf := fun _ k => k.elim0)
    (X := fun c => iprop(start m c ∗ xAll m c ∗ anyOf c oM)) (Y := left m) (Z := fun _ => iprop(emp))
    (hX := start_intro m ρ) (hin := phi0_intro m) (hout := phi1_exit m)
    (QY := Reads m)
    (hY := left_read m)
    (hQ := fun _ h hs => ⟨fun c => ⟨(h c).2.2.2.1, ((h c).1 (0 : Fin 1)).trans ((dats m 0 c).arrAt_in (0 : Fin 1) rfl _), (h c).2.2.2.2⟩,
      sem_eq_zero hs fun c => (h c).2.2.1⟩)

end Cert.KernelIdeal.Two
-- ==== Proof.Values.lean ====
/-
  What the result holds, over the extended reals. Every partial sum a ring carries is a sum of block products over the
  devices it has passed (`acc_part`); after fifteen hops it has passed all sixteen (`acc_full`), and the later hops only
  carry it on (`acc_done`). The product of the whole matrices splits into the same sixteen sums (`whole_split`), so a
  result of which every block is a finished sum is the product (`out_eq`).
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelIdeal.Two

open Cert.KernelIdeal Cert.KernelIdeal.Gen
open Idealize.ShloMosaic Idealize.ShloMosaic.TcCoe

/-! ## The whole matrices -/

/-- The values of the whole x and the whole w. -/
abbrev XV : Type := FVec Ideal ⟨2, ![8192, 8192]⟩ .f32
abbrev WV : Type := FVec Ideal ⟨2, ![8192, 4096]⟩ .f32

theorem lt_big {r i : ℕ} (hr : r < 16) (hi : i < 512) : 512 * r + i < 8192 := by omega
theorem lt_half (s : Bool) {j : ℕ} (hj : j < 2048) : (if s then 2048 else 0) + j < 4096 := by
  cases s
  · exact (by omega : 0 + j < 4096)
  · exact (by omega : 2048 + j < 4096)

/-- Row `i` of row block `r`, or column `i` of device `r`'s columns. -/
abbrev at16 (r : Fin 16) (i : Fin 512) : Fin 8192 := ⟨512 * r.val + i.val, lt_big r.isLt i.isLt⟩
/-- Column `j` of half `s`. -/
abbrev atHalf (s : Bool) (j : Fin 2048) : Fin 4096 := ⟨(if s then 2048 else 0) + j.val, lt_half s j.isLt⟩

/-- The product of row block `r` of device `d`'s columns of x with half `s` of device `d`'s rows of w. -/
def part (X : XV) (W : WV) (s : Bool) (r : Fin 16) (d : Dev nD) : FVec Ideal S512x2048 .f32 := fun i =>
  ∑ k : Fin 512, X (ValueIdx.ix2 (at16 r (i 0)) (at16 d k)) * W (ValueIdx.ix2 (at16 d k) (atHalf s (i 1)))

/-- The row block that ring `s` carries on device `c` at hop `h`. -/
def rowB (s : Bool) (c : Dev nD) (h : ℕ) : Fin 16 :=
  ⟨(if s then c.val + h else c.val + 48 - h) % 16, Nat.mod_lt _ (by decide)⟩

theorem rowB_succ (s : Bool) (c : Dev nD) (h : ℕ) (hh : h < 31) : rowB s (peer (!s) c) h = rowB s c (h + 1) := by
  apply Fin.ext
  have hc : c.val < 16 := c.isLt
  simp only [rowB, peer_val]
  cases s <;> simp <;> omega

theorem xOff_row (s : Bool) (c : Dev nD) (h : ℕ) (hh : h < 15) : xOff s c h = ![512 * (rowB s c (h + 1)).val, 0] := by
  have hc : c.val < 16 := c.isLt
  unfold rowB
  cases s <;> rcases h with _ | n
  · refine (k0_off2_eq c).trans ?_
    simp only [Bool.false_eq_true, if_false]
    rw [show (c.val + 31) % 16 = (c.val + 48 - (0 + 1)) % 16 by omega]
  · refine (k0_off4_eq c ⟨n % 14, Nat.mod_lt _ (by decide)⟩).trans ?_
    simp only [Bool.false_eq_true, if_false]
    rw [show (c.val + 30 - n % 14) % 16 = (c.val + 48 - (n + 1 + 1)) % 16 by omega]
  · refine (k0_off3_eq c).trans ?_
    simp only [if_true]
    rw [show (c.val + 33) % 16 = (c.val + (0 + 1)) % 16 by omega]
  · refine (k0_off5_eq c ⟨n % 14, Nat.mod_lt _ (by decide)⟩).trans ?_
    simp only [if_true]
    rw [show (c.val + n % 14 + 34) % 16 = (c.val + (n + 1 + 1)) % 16 by omega]

theorem ownOff_row (s : Bool) (c : Dev nD) : k0_off1 c = ![512 * (rowB s c 0).val, 0] := by
  have hc : c.val < 16 := c.isLt
  rw [k0_off1_eq c]
  unfold rowB
  cases s
  · simp only [Bool.false_eq_true, if_false]
    rw [show (c.val + 32) % 16 = (c.val + 48 - 0) % 16 by omega]
  · simp only [if_true]
    rw [show (c.val + 32) % 16 = (c.val + 0) % 16 by omega]

theorem rowB_out (s : Bool) (c : Dev nD) (j : ℕ) (hj : j < 16) : (rowB s c (15 + j)).val = oRow s c j := by
  have hc : c.val < 16 := c.isLt
  simp only [rowB, oRow]
  cases s <;> simp <;> omega

/-! ## One product -/

/-- The product the kernel forms, read at an index. -/
theorem mm_apply (w : FVec Ideal S512x2048 .f32) (v : FVec Ideal S512x512 .f32) (i : S512x2048.Idx) :
    mm w v i = ∑ k : Fin 512, v (ValueIdx.ix2 (i 0) k) * w (ValueIdx.ix2 k (i 1)) := by
  obtain ⟨a, b, rfl⟩ : ∃ (a : Fin 512) (b : Fin 2048), i = ValueIdx.ix2 a b := ⟨i 0, i 1, ValueIdx.eq_ix2 i⟩
  refine (Ideal.matmul_plain_apply none v w (constant S512x2048 .f32 0#32) a b).trans ?_
  show Ideal.ofBits .f32 0x00000000#32 + _ = _
  rw [Ideal.ofBits_zero_f32, zero_add]

section Values

variable (m : (ℓ : Loc nD τ sig) → Buf (Elt Ideal) ℓ) (X : XV) (W : WV)

/-- Each device holds its columns of x and its rows of w. -/
structure Cut : Prop where
  x : ∀ c : Dev nD, m ((c : Thread nD τ).loc main_arg0) =
    (Layout.block ⟨2, ![8192, 512]⟩ ⟨2, ![8192, 8192]⟩ 1 16 c X : FVec Ideal S8192x512 .f32)
  w : ∀ c : Dev nD, m ((c : Thread nD τ).loc main_arg1) =
    (Layout.block ⟨2, ![512, 4096]⟩ ⟨2, ![8192, 4096]⟩ 0 16 c W : FVec Ideal S512x4096 .f32)

variable {m X W}

/-- Rows of device `c`'s x at an offset, read as entries of the whole x. -/
theorem x_read (H : Cut m X W) (c : Dev nD) (r : Fin 16) (off : Fin 2 → ℕ) (ho : off = ![512 * r.val, 0])
    (inb : ∀ a, off a + S512x512.size a ≤ S8192x512.size a) (i k : Fin 512) :
    (xM.slice (Rect.unit (s := S8192x512) off S512x512.size inb) (fun _ => rfl)).view.read (Elt Ideal)
      (m ((c : Thread nD τ).loc main_arg0)) (ValueIdx.ix2 i k) = X (ValueIdx.ix2 (at16 r i) (at16 c k)) := by
  subst ho
  rw [H.x c]
  rw [View.read_apply]
  refine (cast_eq _ _).trans ?_
  rw [Layout.block_apply]
  refine congrArg X (funext fun a => Fin.ext ?_)
  rw [Layout.Tiles.idx_val]
  match a with
  | ⟨0, _⟩ =>
    show 512 * r.val + 1 * i.val = 512 * r.val + i.val
    omega
  | ⟨1, _⟩ =>
    show c.val * 512 + (0 + 1 * k.val) = 512 * c.val + k.val
    omega

/-- Half `s` of device `c`'s w, read as entries of the whole w. -/
theorem w_read (H : Cut m X W) (s : Bool) (c : Dev nD) (k : Fin 512) (j : Fin 2048) :
    wH m s c (ValueIdx.ix2 k j) = W (ValueIdx.ix2 (at16 c k) (atHalf s j)) := by
  have hw : wst m c = m ((c : Thread nD τ).loc main_arg1) := by
    unfold wst
    funext i
    rw [View.read_apply]
    refine congrArg (m ((c : Thread nD τ).loc main_arg1)) (funext fun a => Fin.ext ?_)
    match a with
    | ⟨0, _⟩ => show 0 * 512 + 1 * (i 0).val = (i 0).val; omega
    | ⟨1, _⟩ => show 0 * 4096 + 1 * (i 1).val = (i 1).val; omega
  unfold wH
  rw [hw, H.w c]
  cases s
  · show k0_pay1 _ (ValueIdx.ix2 k j) = _
    unfold k0_pay1
    rw [shapeCast_self, View.readAt_rect, View.read_apply]
    refine (cast_eq _ _).trans ?_
    rw [Layout.block_apply]
    refine congrArg W (funext fun a => Fin.ext ?_)
    rw [Layout.Tiles.idx_val]
    match a with
    | ⟨0, _⟩ =>
      show c.val * 512 + (0 + 1 * k.val) = 512 * c.val + k.val
      omega
    | ⟨1, _⟩ =>
      show 0 + 1 * j.val = 0 + j.val
      omega
  · show k0_pay2 _ (ValueIdx.ix2 k j) = _
    unfold k0_pay2
    rw [shapeCast_self, View.readAt_rect, View.read_apply]
    refine (cast_eq _ _).trans ?_
    rw [Layout.block_apply]
    refine congrArg W (funext fun a => Fin.ext ?_)
    rw [Layout.Tiles.idx_val]
    match a with
    | ⟨0, _⟩ =>
      show c.val * 512 + (0 + 1 * k.val) = 512 * c.val + k.val
      omega
    | ⟨1, _⟩ =>
      show 2048 + 1 * j.val = 2048 + j.val
      omega

theorem mm_row (H : Cut m X W) (s : Bool) (c : Dev nD) (h : ℕ) (hh : h < 15) :
    mm (wH m s c) (xRowV m s c h) = part X W s (rowB s c (h + 1)) c := by
  funext i
  rw [mm_apply]
  refine Finset.sum_congr rfl fun k _ => ?_
  refine congrArg₂ (· * ·) ?_ (w_read H s c k (i 1))
  exact (x_read H c (rowB s c (h + 1)) (xOff s c h) (xOff_row s c h hh) (xOff_inb s c h) (i 0) k)

theorem mm_own (H : Cut m X W) (s : Bool) (c : Dev nD) :
    mm (wH m s c) (xOwnV m c) = part X W s (rowB s c 0) c := by
  funext i
  rw [mm_apply]
  refine Finset.sum_congr rfl fun k _ => ?_
  refine congrArg₂ (· * ·) ?_ (w_read H s c k (i 1))
  exact (x_read H c (rowB s c 0) (k0_off1 c) (ownOff_row s c) (k0_off1_inb c) (i 0) k)

/-! ## The sums the rings carry -/

/-- The device `t` hops before device `c` on ring `s`. -/
def back (s : Bool) (c : Dev nD) (t : ℕ) : Dev nD := (peer (!s))^[t] c

theorem back_succ (s : Bool) (c : Dev nD) (t : ℕ) : back s c (t + 1) = back s (peer (!s) c) t :=
  Function.iterate_succ_apply _ _ _

theorem back_val (s : Bool) (t : ℕ) : ∀ c : Dev nD, (back s c t).val = (c.val + t * (if s then 1 else 15)) % 16 := by
  induction t with
  | zero => intro c; show c.val = _; have hc : c.val < 16 := c.isLt; omega
  | succ t ih =>
    intro c
    rw [back_succ, ih, peer_val]
    cases s <;> simp <;> omega

theorem acc_part (H : Cut m X W) (s : Bool) (h : ℕ) : h ≤ 15 → ∀ (c : Dev nD) (i : S512x2048.Idx),
    acc m s c h i = ∑ t ∈ Finset.range (h + 1), part X W s (rowB s c h) (back s c t) i := by
  induction h with
  | zero =>
    intro _ c i
    rw [Finset.sum_range_one]
    show mm (wH m s c) (xOwnV m c) i = _
    rw [mm_own H]
    rfl
  | succ h ih =>
    intro hh c i
    rw [acc_add m s c h (by omega), mm_row H s c h (by omega), Finset.sum_range_succ']
    show acc m s (peer (!s) c) h i + part X W s (rowB s c (h + 1)) c i = _
    rw [ih (by omega), rowB_succ s c h (by omega)]
    refine congrArg (· + _) (Finset.sum_congr rfl fun t _ => ?_)
    rw [back_succ]

/-- The sum over all the devices. -/
theorem acc_full (H : Cut m X W) (s : Bool) (c : Dev nD) (i : S512x2048.Idx) :
    acc m s c 15 i = ∑ d : Dev nD, part X W s (rowB s c 15) d i := by
  rw [acc_part H s 15 le_rfl, Finset.sum_range]
  have hinj : Function.Injective fun t : Fin 16 => back s c t.val := by
    intro t u htu
    have h := congrArg Fin.val htu
    have ht := t.isLt
    have hu := u.isLt
    simp only [back_val] at h
    apply Fin.ext
    cases s <;> simp at h <;> omega
  exact Function.Bijective.sum_comp (Finite.injective_iff_bijective.mp hinj) fun d => part X W s (rowB s c 15) d i

theorem acc_done (H : Cut m X W) (s : Bool) (j : ℕ) : j < 16 → ∀ (c : Dev nD) (i : S512x2048.Idx),
    acc m s c (15 + j) i = ∑ d : Dev nD, part X W s (rowB s c (15 + j)) d i := by
  induction j with
  | zero => intro _ c i; exact acc_full H s c i
  | succ j ih =>
    intro hj c i
    show acc m s c (15 + j + 1) i = ∑ d : Dev nD, part X W s (rowB s c (15 + j + 1)) d i
    rw [acc_pass m s c (15 + j) (by omega), ih (by omega), rowB_succ s c (15 + j) (by omega)]

end Values

/-! ## The whole product -/

/-- The reference's product. -/
abbrev prod (X : XV) (W : WV) : WV :=
  Host.dotGeneral Cert.ReferenceIdeal.dot_S8192x8192_S8192x4096_S8192x4096_1_0_0_1_n_n none X W

/-- An entry of the product of the whole matrices is the sum over the devices of the entries of their block products. -/
theorem whole_split (X : XV) (W : WV) (s : Bool) (r : Fin 16) (i : S512x2048.Idx) :
    prod X W (ValueIdx.ix2 (at16 r (i 0)) (atHalf s (i 1))) = ∑ d : Dev nD, part X W s r d i := by
  show Host.dotGeneral (DotDims.plain 8192 8192 4096) none X W (ValueIdx.ix2 (at16 r (i 0)) (atHalf s (i 1))) = _
  rw [StackMember.dotGeneral_plain_apply]
  unfold part
  rw [← Fintype.sum_prod_type' (f := fun (d : Fin 16) (k : Fin 512) =>
    X (ValueIdx.ix2 (at16 r (i 0)) (at16 d k)) * W (ValueIdx.ix2 (at16 d k) (atHalf s (i 1))))]
  refine (Equiv.sum_comp (finProdFinEquiv : Fin 16 × Fin 512 ≃ Fin (16 * 512)) (fun K : Fin 8192 =>
    X (ValueIdx.ix2 (at16 r (i 0)) K) * W (ValueIdx.ix2 K (atHalf s (i 1))))).symm.trans ?_
  refine Finset.sum_congr rfl fun p _ => ?_
  have hp : (finProdFinEquiv p : Fin 8192) = at16 p.1 p.2 := Fin.ext (by
    show p.2.val + 512 * p.1.val = 512 * p.1.val + p.2.val
    omega)
  rw [hp]

/-- A result of which every block is a finished sum is the product. -/
theorem out_eq {m : (ℓ : Loc nD τ sig) → Buf (Elt Ideal) ℓ} {X : XV} {W : WV} (H : Cut m X W) (c : Dev nD)
    (g : Buf (Elt Ideal) ((c : Thread nD τ).loc main_v1)) (hg : IsOut m c g) : g = prod X W := by
  funext i
  obtain ⟨⟨s, j⟩, ht⟩ := oR_cov c i
  obtain ⟨x, -, rfl⟩ := Finset.mem_map.mp ((Rect.map_emb_univ (oR c (s, j))).symm ▸ ht)
  have h := congrFun (hg s j.val j.isLt) x
  rw [acc_done H s j.val j.isLt c x, ← whole_split, View.read_apply] at h
  refine Eq.trans (Eq.trans ?_ h) (congrArg (prod X W) ?_)
  · rfl
  · funext a
    apply Fin.ext
    have hr := rowB_out s c j.val j.isLt
    match a with
    | ⟨0, _⟩ =>
      show 512 * (rowB s c (15 + j.val)).val + (x 0).val = oOff s c j.val 0 + 1 * (x 0).val
      rw [oOff_eq s c j.val j.isLt, hr]
      show 512 * oRow s c j.val + (x 0).val = 512 * oRow s c j.val + 1 * (x 0).val
      omega
    | ⟨1, _⟩ =>
      show (if s then 2048 else 0) + (x 1).val = oOff s c j.val 1 + 1 * (x 1).val
      rw [oOff_eq s c j.val j.isLt]
      show (if s then 2048 else 0) + (x 1).val = (if s then 2048 else 0) + 1 * (x 1).val
      omega

end Cert.KernelIdeal.Two
-- ==== Proof.lean ====
/- The five claims of `Cert.Claim` (Defs.lean). The kernel and its idealization have the same text, so one run of it, for
   any float values (Proof/Launch.lean `run_main`), gives both frames. The value claim reads that run over the extended
   reals: each block of the result is the sum of the devices' block products, which is that block of the whole product
   (Proof/Values.lean `out_eq`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem
open Cert.KernelIdeal.Two (run_main Cut out_eq prod)

/-- The kernel's body table is its idealization's. -/
theorem bodies_eq : @Cert.Kernel.defs₀ Bits _ Cert.Kernel.Gen.facts = @Cert.KernelIdeal.defs₀ Bits _ Cert.KernelIdeal.Gen.facts := by
  refine congrArg Defs.onTc ?_
  funext l x
  obtain ⟨n, hn⟩ := l
  cases n with
  | zero => obtain ⟨t, s⟩ := x; rfl
  | succ n => exact absurd hn (by show ¬ n + 1 < 1; omega)

theorem defs_eq : @Cert.Kernel.defs Bits _ Cert.Kernel.Gen.facts = @Cert.KernelIdeal.defs Bits _ Cert.KernelIdeal.Gen.facts :=
  congrArg (Pipeline.defs Cert.KernelIdeal.pcfgs) bodies_eq

/-- The kernel runs to the end, leaves its arguments and every semaphore counter as they were. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (run_main (F := Bits) m ρ)

/-- The same run at the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference is one host operation, and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device ends with the whole product. -/
theorem value : Cert.algebraic_KernelIdeal_ReferenceIdeal := by
  intro m ρ m' ρ' _ hargs
  have H : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hargs c).1, fun c => (hargs c).2⟩
  refine ⟨prod _ _, (θ_run Cert.KernelIdeal.defs _ _).mono
      (fun _ h c => ⟨out_eq H c _ (h.1 c).2.2, (h.1 c).1, (h.1 c).2.1⟩) (run_main (F := Ideal) m ρ), ?_⟩
  exact (θ_run Cert.ReferenceIdeal.defs _ _).mono (fun _ h => h 0) (Cert.ReferenceIdeal.Value.run (F := Ideal) m' ρ')

/-- `Cert.Claim`. -/
theorem claim : Cert.Claim :=
  ⟨Cert.Kernel.Gen.facts, Cert.KernelIdeal.Gen.facts, Cert.ReferenceIdeal.Gen.facts,
    frame_kernel, frame_ideal, frame_reference, trivial, value⟩

end Cert.Proof

end
